-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128 : Shape := ⟨2, ![8, 128]⟩
abbrev S128x100000 : Shape := ⟨2, ![128, 100000]⟩
abbrev S100000 : Shape := ⟨1, ![100000]⟩
abbrev S100000x128 : Shape := ⟨2, ![100000, 128]⟩
abbrev S20x1x5000 : Shape := ⟨3, ![20, 1, 5000]⟩
abbrev S8x1 : Shape := ⟨2, ![8, 1]⟩
abbrev S8 : Shape := ⟨1, ![8]⟩
abbrev S3x5000x128 : Shape := ⟨3, ![3, 5000, 128]⟩
abbrev S3 : Shape := ⟨1, ![3]⟩
abbrev S1 : Shape := ⟨1, ![1]⟩
abbrev S_ : Shape := ⟨0, ![]⟩
abbrev S1x5000x128 : Shape := ⟨3, ![1, 5000, 128]⟩
abbrev S5000x128 : Shape := ⟨2, ![5000, 128]⟩
abbrev S8x5000 : Shape := ⟨2, ![8, 5000]⟩
abbrev S1x1x5000 : Shape := ⟨3, ![1, 1, 5000]⟩
abbrev S1x5000 : Shape := ⟨2, ![1, 5000]⟩

abbrev nBuf : Space → Nat
  | .hbm => 7
  | .vmem => 6
  | .smem => 0
  | _ => 0

abbrev bufTy : (tb : Table) → Fin (tcTables nBuf tb) → BufTy
  | .hbm, ⟨0, _⟩ => ⟨S8x128, .f32⟩
  | .hbm, ⟨1, _⟩ => ⟨S128x100000, .f32⟩
  | .hbm, ⟨2, _⟩ => ⟨S100000, .f32⟩
  | .hbm, ⟨3, _⟩ => ⟨S100000x128, .f32⟩
  | .hbm, ⟨4, _⟩ => ⟨S20x1x5000, .f32⟩
  | .hbm, ⟨5, _⟩ => ⟨S8x1, .i32⟩
  | .hbm, ⟨6, _⟩ => ⟨S8, .i32⟩
  | .local _ .vmem, ⟨0, _⟩ => ⟨S8x128, .f32⟩
  | .local _ .vmem, ⟨1, _⟩ => ⟨S20x1x5000, .f32⟩
  | .local _ .vmem, ⟨2, _⟩ => ⟨S8x1, .i32⟩
  | .local _ .vmem, ⟨3, _⟩ => ⟨S3x5000x128, .f32⟩
  | .local _ .vmem, ⟨4, _⟩ => ⟨S8x1, .f32⟩
  | .local _ .vmem, ⟨5, _⟩ => ⟨S8x1, .i32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c20_i32 : BitVec 32 := 20#32
  let v15 : BitVec 32 := Scalar.addi c0_i32_13 c20_i32
  let c1_i32_14 : BitVec 32 := 1#32
  ⟨c0_i32_13, v15, c1_i32_14⟩
def k0_off1 (k0_t1 : Fin k0_t1_loop.trips) : Fin 1 → Nat :=
  let c0_i32_13 : BitVec 32 := 0#32
  let c1_i32_14 : BitVec 32 := 1#32
  let arg8 : BitVec 32 := Scf.iv c0_i32_13 c1_i32_14 k0_t1
  let c3_i32 : BitVec 32 := 3#32
  let v18 : BitVec 32 := Scalar.remsi arg8 c3_i32
  ![v18.toNat]
def k0_off2 (k0_t1 : Fin k0_t1_loop.trips) : Fin 3 → Nat :=
  let c0_i32_13 : BitVec 32 := 0#32
  let c1_i32_14 : BitVec 32 := 1#32
  let arg8 : BitVec 32 := Scf.iv c0_i32_13 c1_i32_14 k0_t1
  let c3_i32 : BitVec 32 := 3#32
  let v18 : BitVec 32 := Scalar.remsi arg8 c3_i32
  let c0_i32_20 : BitVec 32 := 0#32
  let c0_i32_21 : BitVec 32 := 0#32
  ![v18.toNat, 0, 0]
def k0_off3 (k0_t1 : Fin k0_t1_loop.trips) : Fin 2 → Nat :=
  let c0_i32_13 : BitVec 32 := 0#32
  let c1_i32_14 : BitVec 32 := 1#32
  let arg8 : BitVec 32 := Scf.iv c0_i32_13 c1_i32_14 k0_t1
  let c5000_i32_19 : BitVec 32 := 5000#32
  let v19 : BitVec 32 := Scalar.muli arg8 c5000_i32_19
  let c0_i32_22 : BitVec 32 := 0#32
  ![v19.toNat, 0]
def k0_off4 (k0_t1 : Fin k0_t1_loop.trips) : Fin 3 → Nat :=
  let c0_i32_13 : BitVec 32 := 0#32
  let c1_i32_14 : BitVec 32 := 1#32
  let arg8 : BitVec 32 := Scf.iv c0_i32_13 c1_i32_14 k0_t1
  let c3_i32 : BitVec 32 := 3#32
  let v18 : BitVec 32 := Scalar.remsi arg8 c3_i32
  let v25 : Index := Scalar.indexCast v18
  let c0_23 : Index := 0#32
  let c0_24 : Index := 0#32
  ![v25.toNat, 0, 0]
def k0_off5 (k0_t1 : Fin k0_t1_loop.trips) : Fin 3 → Nat :=
  let c0_i32_13 : BitVec 32 := 0#32
  let c1_i32_14 : BitVec 32 := 1#32
  let arg8 : BitVec 32 := Scf.iv c0_i32_13 c1_i32_14 k0_t1
  let v30 : Index := Scalar.indexCast arg8
  let c0_27 : Index := 0#32
  let c0_28 : Index := 0#32
  ![v30.toNat, 0, 0]
def k0_cond1 (k0_t1 : Fin k0_t1_loop.trips) : BitVec 1 :=
  let c0_i32_13 : BitVec 32 := 0#32
  let c1_i32_14 : BitVec 32 := 1#32
  let arg8 : BitVec 32 := Scf.iv c0_i32_13 c1_i32_14 k0_t1
  let c3_i32_92 : BitVec 32 := 3#32
  let v263 : BitVec 32 := Scalar.addi arg8 c3_i32_92
  let c20_i32_93 : BitVec 32 := 20#32
  let v264 : BitVec 1 := Scalar.cmpi .slt v263 c20_i32_93
  let v265 : BitVec 32 := Scalar.extui v264
  let c0_i32_94 : BitVec 32 := 0#32
  let v266 : BitVec 1 := Scalar.cmpi .ne v265 c0_i32_94
  v266

def k0_off6 (k0_t1 : Fin k0_t1_loop.trips) : Fin 1 → Nat :=
  let c0_i32_13 : BitVec 32 := 0#32
  let c1_i32_14 : BitVec 32 := 1#32
  let arg8 : BitVec 32 := Scf.iv c0_i32_13 c1_i32_14 k0_t1
  let c3_i32 : BitVec 32 := 3#32
  let v18 : BitVec 32 := Scalar.remsi arg8 c3_i32
  ![v18.toNat]
def k0_off7 (k0_t1 : Fin k0_t1_loop.trips) : Fin 3 → Nat :=
  let c0_i32_13 : BitVec 32 := 0#32
  let c1_i32_14 : BitVec 32 := 1#32
  let arg8 : BitVec 32 := Scf.iv c0_i32_13 c1_i32_14 k0_t1
  let c3_i32 : BitVec 32 := 3#32
  let v18 : BitVec 32 := Scalar.remsi arg8 c3_i32
  let c0_i32_97 : BitVec 32 := 0#32
  let c0_i32_98 : BitVec 32 := 0#32
  ![v18.toNat, 0, 0]
def k0_off8 (k0_t1 : Fin k0_t1_loop.trips) : Fin 2 → Nat :=
  let c0_i32_13 : BitVec 32 := 0#32
  let c1_i32_14 : BitVec 32 := 1#32
  let arg8 : BitVec 32 := Scf.iv c0_i32_13 c1_i32_14 k0_t1
  let c3_i32_95 : BitVec 32 := 3#32
  let v267 : BitVec 32 := Scalar.addi arg8 c3_i32_95
  let c5000_i32_96 : BitVec 32 := 5000#32
  let v268 : BitVec 32 := Scalar.muli v267 c5000_i32_96
  let c0_i32_99 : BitVec 32 := 0#32
  ![v268.toNat, 0]
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1x5000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x128 : Shape := ⟨2, ![8, 128]⟩
abbrev S128x100000 : Shape := ⟨2, ![128, 100000]⟩
abbrev S100000 : Shape := ⟨1, ![100000]⟩
abbrev S8x100000 : Shape := ⟨2, ![8, 100000]⟩
abbrev S1x100000 : Shape := ⟨2, ![1, 100000]⟩
abbrev S_ : Shape := ⟨0, ![]⟩
abbrev S1 : Shape := ⟨1, ![1]⟩
abbrev S2 : Shape := ⟨1, ![2]⟩
abbrev S8 : Shape := ⟨1, ![8]⟩

abbrev nBuf : Space → Nat
  | .hbm => 287
  | .vmem => 0
  | .smem => 0
  | _ => 0

abbrev hbmTy0_0 (i : Nat) : BufTy := match i % 128 with
  | 0 => ⟨S8x128, .f32⟩
  | 1 => ⟨S128x100000, .f32⟩
  | 2 => ⟨S100000, .f32⟩
  | 3 => ⟨S8x100000, .f32⟩
  | 4 => ⟨S1x100000, .f32⟩
  | 5 => ⟨S8x100000, .f32⟩
  | 6 => ⟨S8x100000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S1, .i32⟩
  | 18 => ⟨S_, .i32⟩
  | 19 => ⟨S1, .i32⟩
  | 20 => ⟨S_, .i32⟩
  | 21 => ⟨S8x100000, .i64⟩
  | 22 => ⟨S8x100000, .i64⟩
  | 23 => ⟨S_, .i64⟩
  | 24 => ⟨S8x100000, .i64⟩
  | 25 => ⟨S8x100000, .i64⟩
  | 26 => ⟨S_, .i64⟩
  | 27 => ⟨S8x100000, .i64⟩
  | 28 => ⟨S8x100000, .i64⟩
  | 29 => ⟨S8x100000, .i64⟩
  | 30 => ⟨S_, .i64⟩
  | 31 => ⟨S8x100000, .i64⟩
  | 32 => ⟨S8x100000, .i64⟩
  | 33 => ⟨S8x100000, .i32⟩
  | 34 => ⟨S8x100000, .i32⟩
  | 35 => ⟨S_, .i32⟩
  | 36 => ⟨S_, .i32⟩
  | 37 => ⟨S_, .i32⟩
  | 38 => ⟨S8x100000, .i32⟩
  | 39 => ⟨S8x100000, .i32⟩
  | 40 => ⟨S8x100000, .i32⟩
  | 41 => ⟨S8x100000, .i32⟩
  | 42 => ⟨S8x100000, .i32⟩
  | 43 => ⟨S_, .i32⟩
  | 44 => ⟨S8x100000, .i32⟩
  | 45 => ⟨S8x100000, .i32⟩
  | 46 => ⟨S_, .i32⟩
  | 47 => ⟨S8x100000, .i32⟩
  | 48 => ⟨S8x100000, .i32⟩
  | 49 => ⟨S8x100000, .i32⟩
  | 50 => ⟨S8x100000, .i32⟩
  | 51 => ⟨S8x100000, .i32⟩
  | 52 => ⟨S_, .i32⟩
  | 53 => ⟨S8x100000, .i32⟩
  | 54 => ⟨S8x100000, .i32⟩
  | 55 => ⟨S_, .i32⟩
  | 56 => ⟨S8x100000, .i32⟩
  | 57 => ⟨S8x100000, .i32⟩
  | 58 => ⟨S8x100000, .i32⟩
  | 59 => ⟨S8x100000, .i32⟩
  | 60 => ⟨S8x100000, .i32⟩
  | 61 => ⟨S_, .i32⟩
  | 62 => ⟨S8x100000, .i32⟩
  | 63 => ⟨S8x100000, .i32⟩
  | 64 => ⟨S_, .i32⟩
  | 65 => ⟨S8x100000, .i32⟩
  | 66 => ⟨S8x100000, .i32⟩
  | 67 => ⟨S8x100000, .i32⟩
  | 68 => ⟨S8x100000, .i32⟩
  | 69 => ⟨S8x100000, .i32⟩
  | 70 => ⟨S_, .i32⟩
  | 71 => ⟨S8x100000, .i32⟩
  | 72 => ⟨S8x100000, .i32⟩
  | 73 => ⟨S_, .i32⟩
  | 74 => ⟨S8x100000, .i32⟩
  | 75 => ⟨S8x100000, .i32⟩
  | 76 => ⟨S8x100000, .i32⟩
  | 77 => ⟨S8x100000, .i32⟩
  | 78 => ⟨S8x100000, .i32⟩
  | 79 => ⟨S8x100000, .i32⟩
  | 80 => ⟨S8x100000, .i32⟩
  | 81 => ⟨S8x100000, .i32⟩
  | 82 => ⟨S_, .i32⟩
  | 83 => ⟨S8x100000, .i32⟩
  | 84 => ⟨S8x100000, .i32⟩
  | 85 => ⟨S8x100000, .i32⟩
  | 86 => ⟨S_, .i32⟩
  | 87 => ⟨S8x100000, .i32⟩
  | 88 => ⟨S8x100000, .i32⟩
  | 89 => ⟨S_, .i32⟩
  | 90 => ⟨S8x100000, .i32⟩
  | 91 => ⟨S8x100000, .i32⟩
  | 92 => ⟨S8x100000, .i32⟩
  | 93 => ⟨S8x100000, .i32⟩
  | 94 => ⟨S8x100000, .i32⟩
  | 95 => ⟨S_, .i32⟩
  | 96 => ⟨S8x100000, .i32⟩
  | 97 => ⟨S8x100000, .i32⟩
  | 98 => ⟨S_, .i32⟩
  | 99 => ⟨S8x100000, .i32⟩
  | 100 => ⟨S8x100000, .i32⟩
  | 101 => ⟨S8x100000, .i32⟩
  | 102 => ⟨S8x100000, .i32⟩
  | 103 => ⟨S8x100000, .i32⟩
  | 104 => ⟨S_, .i32⟩
  | 105 => ⟨S8x100000, .i32⟩
  | 106 => ⟨S8x100000, .i32⟩
  | 107 => ⟨S_, .i32⟩
  | 108 => ⟨S8x100000, .i32⟩
  | 109 => ⟨S8x100000, .i32⟩
  | 110 => ⟨S8x100000, .i32⟩
  | 111 => ⟨S8x100000, .i32⟩
  | 112 => ⟨S8x100000, .i32⟩
  | 113 => ⟨S_, .i32⟩
  | 114 => ⟨S8x100000, .i32⟩
  | 115 => ⟨S8x100000, .i32⟩
  | 116 => ⟨S_, .i32⟩
  | 117 => ⟨S8x100000, .i32⟩
  | 118 => ⟨S8x100000, .i32⟩
  | 119 => ⟨S8x100000, .i32⟩
  | 120 => ⟨S8x100000, .i32⟩
  | 121 => ⟨S8x100000, .i32⟩
  | 122 => ⟨S8x100000, .i32⟩
  | 123 => ⟨S8x100000, .i32⟩
  | 124 => ⟨S8x100000, .i32⟩
  | 125 => ⟨S_, .i32⟩
  | 126 => ⟨S8x100000, .i32⟩
  | 127 => ⟨S8x100000, .i32⟩
  | _ => ⟨S8x128, .f32⟩

abbrev hbmTy0_1 (i : Nat) : BufTy := match i % 128 with
  | 0 => ⟨S8x100000, .i32⟩
  | 1 => ⟨S_, .i32⟩
  | 2 => ⟨S8x100000, .i32⟩
  | 3 => ⟨S8x100000, .i32⟩
  | 4 => ⟨S_, .i32⟩
  | 5 => ⟨S8x100000, .i32⟩
  | 6 => ⟨S8x100000, .i32⟩
  | 7 => ⟨S8x100000, .i32⟩
  | 8 => ⟨S8x100000, .i32⟩
  | 9 => ⟨S8x100000, .i32⟩
  | 10 => ⟨S_, .i32⟩
  | 11 => ⟨S8x100000, .i32⟩
  | 12 => ⟨S8x100000, .i32⟩
  | 13 => ⟨S_, .i32⟩
  | 14 => ⟨S8x100000, .i32⟩
  | 15 => ⟨S8x100000, .i32⟩
  | 16 => ⟨S8x100000, .i32⟩
  | 17 => ⟨S8x100000, .i32⟩
  | 18 => ⟨S8x100000, .i32⟩
  | 19 => ⟨S_, .i32⟩
  | 20 => ⟨S8x100000, .i32⟩
  | 21 => ⟨S8x100000, .i32⟩
  | 22 => ⟨S_, .i32⟩
  | 23 => ⟨S8x100000, .i32⟩
  | 24 => ⟨S8x100000, .i32⟩
  | 25 => ⟨S8x100000, .i32⟩
  | 26 => ⟨S8x100000, .i32⟩
  | 27 => ⟨S8x100000, .i32⟩
  | 28 => ⟨S_, .i32⟩
  | 29 => ⟨S8x100000, .i32⟩
  | 30 => ⟨S8x100000, .i32⟩
  | 31 => ⟨S_, .i32⟩
  | 32 => ⟨S8x100000, .i32⟩
  | 33 => ⟨S8x100000, .i32⟩
  | 34 => ⟨S8x100000, .i32⟩
  | 35 => ⟨S8x100000, .i32⟩
  | 36 => ⟨S8x100000, .i32⟩
  | 37 => ⟨S8x100000, .i32⟩
  | 38 => ⟨S8x100000, .i32⟩
  | 39 => ⟨S8x100000, .i32⟩
  | 40 => ⟨S_, .i32⟩
  | 41 => ⟨S8x100000, .i32⟩
  | 42 => ⟨S8x100000, .i32⟩
  | 43 => ⟨S8x100000, .i32⟩
  | 44 => ⟨S_, .i32⟩
  | 45 => ⟨S8x100000, .i32⟩
  | 46 => ⟨S8x100000, .i32⟩
  | 47 => ⟨S_, .i32⟩
  | 48 => ⟨S8x100000, .i32⟩
  | 49 => ⟨S8x100000, .i32⟩
  | 50 => ⟨S8x100000, .i32⟩
  | 51 => ⟨S8x100000, .i32⟩
  | 52 => ⟨S8x100000, .i32⟩
  | 53 => ⟨S_, .i32⟩
  | 54 => ⟨S8x100000, .i32⟩
  | 55 => ⟨S8x100000, .i32⟩
  | 56 => ⟨S_, .i32⟩
  | 57 => ⟨S8x100000, .i32⟩
  | 58 => ⟨S8x100000, .i32⟩
  | 59 => ⟨S8x100000, .i32⟩
  | 60 => ⟨S8x100000, .i32⟩
  | 61 => ⟨S8x100000, .i32⟩
  | 62 => ⟨S_, .i32⟩
  | 63 => ⟨S8x100000, .i32⟩
  | 64 => ⟨S8x100000, .i32⟩
  | 65 => ⟨S_, .i32⟩
  | 66 => ⟨S8x100000, .i32⟩
  | 67 => ⟨S8x100000, .i32⟩
  | 68 => ⟨S8x100000, .i32⟩
  | 69 => ⟨S8x100000, .i32⟩
  | 70 => ⟨S8x100000, .i32⟩
  | 71 => ⟨S_, .i32⟩
  | 72 => ⟨S8x100000, .i32⟩
  | 73 => ⟨S8x100000, .i32⟩
  | 74 => ⟨S_, .i32⟩
  | 75 => ⟨S8x100000, .i32⟩
  | 76 => ⟨S8x100000, .i32⟩
  | 77 => ⟨S8x100000, .i32⟩
  | 78 => ⟨S8x100000, .i32⟩
  | 79 => ⟨S8x100000, .i32⟩
  | 80 => ⟨S8x100000, .i32⟩
  | 81 => ⟨S8x100000, .i32⟩
  | 82 => ⟨S8x100000, .i32⟩
  | 83 => ⟨S_, .i32⟩
  | 84 => ⟨S8x100000, .i32⟩
  | 85 => ⟨S8x100000, .i32⟩
  | 86 => ⟨S8x100000, .i32⟩
  | 87 => ⟨S_, .i32⟩
  | 88 => ⟨S8x100000, .i32⟩
  | 89 => ⟨S8x100000, .i32⟩
  | 90 => ⟨S_, .i32⟩
  | 91 => ⟨S8x100000, .i32⟩
  | 92 => ⟨S8x100000, .i32⟩
  | 93 => ⟨S8x100000, .i32⟩
  | 94 => ⟨S8x100000, .i32⟩
  | 95 => ⟨S8x100000, .i32⟩
  | 96 => ⟨S_, .i32⟩
  | 97 => ⟨S8x100000, .i32⟩
  | 98 => ⟨S8x100000, .i32⟩
  | 99 => ⟨S_, .i32⟩
  | 100 => ⟨S8x100000, .i32⟩
  | 101 => ⟨S8x100000, .i32⟩
  | 102 => ⟨S8x100000, .i32⟩
  | 103 => ⟨S8x100000, .i32⟩
  | 104 => ⟨S8x100000, .i32⟩
  | 105 => ⟨S_, .i32⟩
  | 106 => ⟨S8x100000, .i32⟩
  | 107 => ⟨S8x100000, .i32⟩
  | 108 => ⟨S_, .i32⟩
  | 109 => ⟨S8x100000, .i32⟩
  | 110 => ⟨S8x100000, .i32⟩
  | 111 => ⟨S8x100000, .i32⟩
  | 112 => ⟨S8x100000, .i32⟩
  | 113 => ⟨S8x100000, .i32⟩
  | 114 => ⟨S_, .i32⟩
  | 115 => ⟨S8x100000, .i32⟩
  | 116 => ⟨S8x100000, .i32⟩
  | 117 => ⟨S_, .i32⟩
  | 118 => ⟨S8x100000, .i32⟩
  | 119 => ⟨S8x100000, .i32⟩
  | 120 => ⟨S8x100000, .i32⟩
  | 121 => ⟨S8x100000, .i32⟩
  | 122 => ⟨S8x100000, .i32⟩
  | 123 => ⟨S8x100000, .i32⟩
  | 124 => ⟨S8x100000, .i32⟩
  | 125 => ⟨S8x100000, .i32⟩
  | 126 => ⟨S_, .i32⟩
  | 127 => ⟨S8x100000, .i32⟩
  | _ => ⟨S8x128, .f32⟩

abbrev hbmTy0_2 (i : Nat) : BufTy := match i % 128 with
  | 0 => ⟨S8x100000, .i32⟩
  | 1 => ⟨S8x100000, .i32⟩
  | 2 => ⟨S_, .i32⟩
  | 3 => ⟨S8x100000, .i32⟩
  | 4 => ⟨S8x100000, .i32⟩
  | 5 => ⟨S_, .i32⟩
  | 6 => ⟨S8x100000, .i32⟩
  | 7 => ⟨S8x100000, .i32⟩
  | 8 => ⟨S8x100000, .f32⟩
  | 9 => ⟨S_, .f32⟩
  | 10 => ⟨S8x100000, .f32⟩
  | 11 => ⟨S8x100000, .f32⟩
  | 12 => ⟨S_, .f32⟩
  | 13 => ⟨S8x100000, .f32⟩
  | 14 => ⟨S8x100000, .f32⟩
  | 15 => ⟨S_, .f32⟩
  | 16 => ⟨S8x100000, .f32⟩
  | 17 => ⟨S8x100000, .f32⟩
  | 18 => ⟨S_, .f32⟩
  | 19 => ⟨S8x100000, .f32⟩
  | 20 => ⟨S8x100000, .f32⟩
  | 21 => ⟨S8x100000, .f32⟩
  | 22 => ⟨S8x100000, .f32⟩
  | 23 => ⟨S8x100000, .f32⟩
  | 24 => ⟨S8x100000, .f32⟩
  | 25 => ⟨S8x100000, .f32⟩
  | 26 => ⟨S8x100000, .i32⟩
  | 27 => ⟨S_, .f32⟩
  | 28 => ⟨S_, .i32⟩
  | 29 => ⟨S8, .f32⟩
  | 30 => ⟨S8, .i32⟩
  | _ => ⟨S8x128, .f32⟩

abbrev hbmTy (i : Nat) : BufTy := match i / 128 with
  | 0 => hbmTy0_0 i
  | 1 => hbmTy0_1 i
  | 2 => hbmTy0_2 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_c_0 : Ref sig .tc := ⟨.hbm, 43, rfl⟩
abbrev main_call0_v7 : Ref sig .tc := ⟨.hbm, 44, rfl⟩
abbrev main_call0_v8 : Ref sig .tc := ⟨.hbm, 45, rfl⟩
abbrev main_call0_c_1 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_c_2 : Ref sig .tc := ⟨.hbm, 52, rfl⟩
abbrev main_call0_v14 : Ref sig .tc := ⟨.hbm, 53, rfl⟩
abbrev main_call0_v15 : Ref sig .tc := ⟨.hbm, 54, rfl⟩
abbrev main_call0_c_3 : Ref sig .tc := ⟨.hbm, 55, rfl⟩
abbrev main_call0_v16 : Ref sig .tc := ⟨.hbm, 56, rfl⟩
abbrev main_call0_v17 : Ref sig .tc := ⟨.hbm, 57, rfl⟩
abbrev main_call0_v18 : Ref sig .tc := ⟨.hbm, 58, rfl⟩
abbrev main_call0_v19 : Ref sig .tc := ⟨.hbm, 59, rfl⟩
abbrev main_call0_v20 : Ref sig .tc := ⟨.hbm, 60, rfl⟩
abbrev main_call0_c_4 : Ref sig .tc := ⟨.hbm, 61, rfl⟩
abbrev main_call0_v21 : Ref sig .tc := ⟨.hbm, 62, rfl⟩
abbrev main_call0_v22 : Ref sig .tc := ⟨.hbm, 63, rfl⟩
abbrev main_call0_c_5 : Ref sig .tc := ⟨.hbm, 64, rfl⟩
abbrev main_call0_v23 : Ref sig .tc := ⟨.hbm, 65, rfl⟩
abbrev main_call0_v24 : Ref sig .tc := ⟨.hbm, 66, rfl⟩
abbrev main_call0_v25 : Ref sig .tc := ⟨.hbm, 67, rfl⟩
abbrev main_call0_v26 : Ref sig .tc := ⟨.hbm, 68, rfl⟩
abbrev main_call0_v27 : Ref sig .tc := ⟨.hbm, 69, rfl⟩
abbrev main_call0_c_6 : Ref sig .tc := ⟨.hbm, 70, rfl⟩
abbrev main_call0_v28 : Ref sig .tc := ⟨.hbm, 71, rfl⟩
abbrev main_call0_v29 : Ref sig .tc := ⟨.hbm, 72, rfl⟩
abbrev main_call0_c_7 : Ref sig .tc := ⟨.hbm, 73, rfl⟩
abbrev main_call0_v30 : Ref sig .tc := ⟨.hbm, 74, rfl⟩
abbrev main_call0_v31 : Ref sig .tc := ⟨.hbm, 75, rfl⟩
abbrev main_call0_v32 : Ref sig .tc := ⟨.hbm, 76, rfl⟩
abbrev main_call0_v33 : Ref sig .tc := ⟨.hbm, 77, rfl⟩
abbrev main_call0_v34 : Ref sig .tc := ⟨.hbm, 78, rfl⟩
abbrev main_call0_v35 : Ref sig .tc := ⟨.hbm, 79, rfl⟩
abbrev main_call0_v36 : Ref sig .tc := ⟨.hbm, 80, rfl⟩
abbrev main_call0_v37 : Ref sig .tc := ⟨.hbm, 81, rfl⟩
abbrev main_call0_c_8 : Ref sig .tc := ⟨.hbm, 82, rfl⟩
abbrev main_call0_v38 : Ref sig .tc := ⟨.hbm, 83, rfl⟩
abbrev main_call0_v39 : Ref sig .tc := ⟨.hbm, 84, rfl⟩
abbrev main_call0_v40 : Ref sig .tc := ⟨.hbm, 85, rfl⟩
abbrev main_call0_c_9 : Ref sig .tc := ⟨.hbm, 86, rfl⟩
abbrev main_call0_v41 : Ref sig .tc := ⟨.hbm, 87, rfl⟩
abbrev main_call0_v42 : Ref sig .tc := ⟨.hbm, 88, rfl⟩
abbrev main_call0_c_10 : Ref sig .tc := ⟨.hbm, 89, rfl⟩
abbrev main_call0_v43 : Ref sig .tc := ⟨.hbm, 90, rfl⟩
abbrev main_call0_v44 : Ref sig .tc := ⟨.hbm, 91, rfl⟩
abbrev main_call0_v45 : Ref sig .tc := ⟨.hbm, 92, rfl⟩
abbrev main_call0_v46 : Ref sig .tc := ⟨.hbm, 93, rfl⟩
abbrev main_call0_v47 : Ref sig .tc := ⟨.hbm, 94, rfl⟩
abbrev main_call0_c_11 : Ref sig .tc := ⟨.hbm, 95, rfl⟩
abbrev main_call0_v48 : Ref sig .tc := ⟨.hbm, 96, rfl⟩
abbrev main_call0_v49 : Ref sig .tc := ⟨.hbm, 97, rfl⟩
abbrev main_call0_c_12 : Ref sig .tc := ⟨.hbm, 98, rfl⟩
abbrev main_call0_v50 : Ref sig .tc := ⟨.hbm, 99, rfl⟩
abbrev main_call0_v51 : Ref sig .tc := ⟨.hbm, 100, rfl⟩
abbrev main_call0_v52 : Ref sig .tc := ⟨.hbm, 101, rfl⟩
abbrev main_call0_v53 : Ref sig .tc := ⟨.hbm, 102, rfl⟩
abbrev main_call0_v54 : Ref sig .tc := ⟨.hbm, 103, rfl⟩
abbrev main_call0_c_13 : Ref sig .tc := ⟨.hbm, 104, rfl⟩
abbrev main_call0_v55 : Ref sig .tc := ⟨.hbm, 105, rfl⟩
abbrev main_call0_v56 : Ref sig .tc := ⟨.hbm, 106, rfl⟩
abbrev main_call0_c_14 : Ref sig .tc := ⟨.hbm, 107, rfl⟩
abbrev main_call0_v57 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_c_15 : Ref sig .tc := ⟨.hbm, 113, rfl⟩
abbrev main_call0_v62 : Ref sig .tc := ⟨.hbm, 114, rfl⟩
abbrev main_call0_v63 : Ref sig .tc := ⟨.hbm, 115, rfl⟩
abbrev main_call0_c_16 : Ref sig .tc := ⟨.hbm, 116, rfl⟩
abbrev main_call0_v64 : Ref sig .tc := ⟨.hbm, 117, rfl⟩
abbrev main_call0_v65 : Ref sig .tc := ⟨.hbm, 118, rfl⟩
abbrev main_call0_v66 : Ref sig .tc := ⟨.hbm, 119, rfl⟩
abbrev main_call0_v67 : Ref sig .tc := ⟨.hbm, 120, rfl⟩
abbrev main_call0_v68 : Ref sig .tc := ⟨.hbm, 121, rfl⟩
abbrev main_call0_v69 : Ref sig .tc := ⟨.hbm, 122, rfl⟩
abbrev main_call0_v70 : Ref sig .tc := ⟨.hbm, 123, rfl⟩
abbrev main_call0_v71 : Ref sig .tc := ⟨.hbm, 124, rfl⟩
abbrev main_call0_c_17 : Ref sig .tc := ⟨.hbm, 125, rfl⟩
abbrev main_call0_v72 : Ref sig .tc := ⟨.hbm, 126, rfl⟩
abbrev main_call0_v73 : Ref sig .tc := ⟨.hbm, 127, rfl⟩
abbrev main_call0_v74 : Ref sig .tc := ⟨.hbm, 128, rfl⟩
abbrev main_call0_c_18 : Ref sig .tc := ⟨.hbm, 129, rfl⟩
abbrev main_call0_v75 : Ref sig .tc := ⟨.hbm, 130, rfl⟩
abbrev main_call0_v76 : Ref sig .tc := ⟨.hbm, 131, rfl⟩
abbrev main_call0_c_19 : Ref sig .tc := ⟨.hbm, 132, rfl⟩
abbrev main_call0_v77 : Ref sig .tc := ⟨.hbm, 133, rfl⟩
abbrev main_call0_v78 : Ref sig .tc := ⟨.hbm, 134, rfl⟩
abbrev main_call0_v79 : Ref sig .tc := ⟨.hbm, 135, rfl⟩
abbrev main_call0_v80 : Ref sig .tc := ⟨.hbm, 136, rfl⟩
abbrev main_call0_v81 : Ref sig .tc := ⟨.hbm, 137, rfl⟩
abbrev main_call0_c_20 : Ref sig .tc := ⟨.hbm, 138, rfl⟩
abbrev main_call0_v82 : Ref sig .tc := ⟨.hbm, 139, rfl⟩
abbrev main_call0_v83 : Ref sig .tc := ⟨.hbm, 140, rfl⟩
abbrev main_call0_c_21 : Ref sig .tc := ⟨.hbm, 141, rfl⟩
abbrev main_call0_v84 : Ref sig .tc := ⟨.hbm, 142, rfl⟩
abbrev main_call0_v85 : Ref sig .tc := ⟨.hbm, 143, rfl⟩
abbrev main_call0_v86 : Ref sig .tc := ⟨.hbm, 144, rfl⟩
abbrev main_call0_v87 : Ref sig .tc := ⟨.hbm, 145, rfl⟩
abbrev main_call0_v88 : Ref sig .tc := ⟨.hbm, 146, rfl⟩
abbrev main_call0_c_22 : Ref sig .tc := ⟨.hbm, 147, rfl⟩
abbrev main_call0_v89 : Ref sig .tc := ⟨.hbm, 148, rfl⟩
abbrev main_call0_v90 : Ref sig .tc := ⟨.hbm, 149, rfl⟩
abbrev main_call0_c_23 : Ref sig .tc := ⟨.hbm, 150, rfl⟩
abbrev main_call0_v91 : Ref sig .tc := ⟨.hbm, 151, rfl⟩
abbrev main_call0_v92 : Ref sig .tc := ⟨.hbm, 152, rfl⟩
abbrev main_call0_v93 : Ref sig .tc := ⟨.hbm, 153, rfl⟩
abbrev main_call0_v94 : Ref sig .tc := ⟨.hbm, 154, rfl⟩
abbrev main_call0_v95 : Ref sig .tc := ⟨.hbm, 155, rfl⟩
abbrev main_call0_c_24 : Ref sig .tc := ⟨.hbm, 156, rfl⟩
abbrev main_call0_v96 : Ref sig .tc := ⟨.hbm, 157, rfl⟩
abbrev main_call0_v97 : Ref sig .tc := ⟨.hbm, 158, rfl⟩
abbrev main_call0_c_25 : Ref sig .tc := ⟨.hbm, 159, rfl⟩
abbrev main_call0_v98 : Ref sig .tc := ⟨.hbm, 160, rfl⟩
abbrev main_call0_v99 : Ref sig .tc := ⟨.hbm, 161, rfl⟩
abbrev main_call0_v100 : Ref sig .tc := ⟨.hbm, 162, rfl⟩
abbrev main_call0_v101 : Ref sig .tc := ⟨.hbm, 163, rfl⟩
abbrev main_call0_v102 : Ref sig .tc := ⟨.hbm, 164, rfl⟩
abbrev main_call0_v103 : Ref sig .tc := ⟨.hbm, 165, rfl⟩
abbrev main_call0_v104 : Ref sig .tc := ⟨.hbm, 166, rfl⟩
abbrev main_call0_v105 : Ref sig .tc := ⟨.hbm, 167, rfl⟩
abbrev main_call0_c_26 : Ref sig .tc := ⟨.hbm, 168, rfl⟩
abbrev main_call0_v106 : Ref sig .tc := ⟨.hbm, 169, rfl⟩
abbrev main_call0_v107 : Ref sig .tc := ⟨.hbm, 170, rfl⟩
abbrev main_call0_v108 : Ref sig .tc := ⟨.hbm, 171, rfl⟩
abbrev main_call0_c_27 : Ref sig .tc := ⟨.hbm, 172, rfl⟩
abbrev main_call0_v109 : Ref sig .tc := ⟨.hbm, 173, rfl⟩
abbrev main_call0_v110 : Ref sig .tc := ⟨.hbm, 174, rfl⟩
abbrev main_call0_c_28 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_c_29 : Ref sig .tc := ⟨.hbm, 181, rfl⟩
abbrev main_call0_v116 : Ref sig .tc := ⟨.hbm, 182, rfl⟩
abbrev main_call0_v117 : Ref sig .tc := ⟨.hbm, 183, rfl⟩
abbrev main_call0_c_30 : Ref sig .tc := ⟨.hbm, 184, rfl⟩
abbrev main_call0_v118 : Ref sig .tc := ⟨.hbm, 185, rfl⟩
abbrev main_call0_v119 : Ref sig .tc := ⟨.hbm, 186, rfl⟩
abbrev main_call0_v120 : Ref sig .tc := ⟨.hbm, 187, rfl⟩
abbrev main_call0_v121 : Ref sig .tc := ⟨.hbm, 188, rfl⟩
abbrev main_call0_v122 : Ref sig .tc := ⟨.hbm, 189, rfl⟩
abbrev main_call0_c_31 : Ref sig .tc := ⟨.hbm, 190, rfl⟩
abbrev main_call0_v123 : Ref sig .tc := ⟨.hbm, 191, rfl⟩
abbrev main_call0_v124 : Ref sig .tc := ⟨.hbm, 192, rfl⟩
abbrev main_call0_c_32 : Ref sig .tc := ⟨.hbm, 193, rfl⟩
abbrev main_call0_v125 : Ref sig .tc := ⟨.hbm, 194, rfl⟩
abbrev main_call0_v126 : Ref sig .tc := ⟨.hbm, 195, rfl⟩
abbrev main_call0_v127 : Ref sig .tc := ⟨.hbm, 196, rfl⟩
abbrev main_call0_v128 : Ref sig .tc := ⟨.hbm, 197, rfl⟩
abbrev main_call0_v129 : Ref sig .tc := ⟨.hbm, 198, rfl⟩
abbrev main_call0_c_33 : Ref sig .tc := ⟨.hbm, 199, rfl⟩
abbrev main_call0_v130 : Ref sig .tc := ⟨.hbm, 200, rfl⟩
abbrev main_call0_v131 : Ref sig .tc := ⟨.hbm, 201, rfl⟩
abbrev main_call0_c_34 : Ref sig .tc := ⟨.hbm, 202, rfl⟩
abbrev main_call0_v132 : Ref sig .tc := ⟨.hbm, 203, rfl⟩
abbrev main_call0_v133 : Ref sig .tc := ⟨.hbm, 204, rfl⟩
abbrev main_call0_v134 : Ref sig .tc := ⟨.hbm, 205, rfl⟩
abbrev main_call0_v135 : Ref sig .tc := ⟨.hbm, 206, rfl⟩
abbrev main_call0_v136 : Ref sig .tc := ⟨.hbm, 207, rfl⟩
abbrev main_call0_v137 : Ref sig .tc := ⟨.hbm, 208, rfl⟩
abbrev main_call0_v138 : Ref sig .tc := ⟨.hbm, 209, rfl⟩
abbrev main_call0_v139 : Ref sig .tc := ⟨.hbm, 210, rfl⟩
abbrev main_call0_c_35 : Ref sig .tc := ⟨.hbm, 211, rfl⟩
abbrev main_call0_v140 : Ref sig .tc := ⟨.hbm, 212, rfl⟩
abbrev main_call0_v141 : Ref sig .tc := ⟨.hbm, 213, rfl⟩
abbrev main_call0_v142 : Ref sig .tc := ⟨.hbm, 214, rfl⟩
abbrev main_call0_c_36 : Ref sig .tc := ⟨.hbm, 215, rfl⟩
abbrev main_call0_v143 : Ref sig .tc := ⟨.hbm, 216, rfl⟩
abbrev main_call0_v144 : Ref sig .tc := ⟨.hbm, 217, rfl⟩
abbrev main_call0_c_37 : Ref sig .tc := ⟨.hbm, 218, rfl⟩
abbrev main_call0_v145 : Ref sig .tc := ⟨.hbm, 219, rfl⟩
abbrev main_call0_v146 : Ref sig .tc := ⟨.hbm, 220, rfl⟩
abbrev main_call0_v147 : Ref sig .tc := ⟨.hbm, 221, rfl⟩
abbrev main_call0_v148 : Ref sig .tc := ⟨.hbm, 222, rfl⟩
abbrev main_call0_v149 : Ref sig .tc := ⟨.hbm, 223, rfl⟩
abbrev main_call0_c_38 : Ref sig .tc := ⟨.hbm, 224, rfl⟩
abbrev main_call0_v150 : Ref sig .tc := ⟨.hbm, 225, rfl⟩
abbrev main_call0_v151 : Ref sig .tc := ⟨.hbm, 226, rfl⟩
abbrev main_call0_c_39 : Ref sig .tc := ⟨.hbm, 227, rfl⟩
abbrev main_call0_v152 : Ref sig .tc := ⟨.hbm, 228, rfl⟩
abbrev main_call0_v153 : Ref sig .tc := ⟨.hbm, 229, rfl⟩
abbrev main_call0_v154 : Ref sig .tc := ⟨.hbm, 230, rfl⟩
abbrev main_call0_v155 : Ref sig .tc := ⟨.hbm, 231, rfl⟩
abbrev main_call0_v156 : Ref sig .tc := ⟨.hbm, 232, rfl⟩
abbrev main_call0_c_40 : Ref sig .tc := ⟨.hbm, 233, rfl⟩
abbrev main_call0_v157 : Ref sig .tc := ⟨.hbm, 234, rfl⟩
abbrev main_call0_v158 : Ref sig .tc := ⟨.hbm, 235, rfl⟩
abbrev main_call0_c_41 : Ref sig .tc := ⟨.hbm, 236, rfl⟩
abbrev main_call0_v159 : Ref sig .tc := ⟨.hbm, 237, rfl⟩
abbrev main_call0_v160 : Ref sig .tc := ⟨.hbm, 238, rfl⟩
abbrev main_call0_v161 : Ref sig .tc := ⟨.hbm, 239, rfl⟩
abbrev main_call0_v162 : Ref sig .tc := ⟨.hbm, 240, rfl⟩
abbrev main_call0_v163 : Ref sig .tc := ⟨.hbm, 241, rfl⟩
abbrev main_call0_c_42 : Ref sig .tc := ⟨.hbm, 242, rfl⟩
abbrev main_call0_v164 : Ref sig .tc := ⟨.hbm, 243, rfl⟩
abbrev main_call0_v165 : Ref sig .tc := ⟨.hbm, 244, rfl⟩
abbrev main_call0_c_43 : Ref sig .tc := ⟨.hbm, 245, rfl⟩
abbrev main_call0_v166 : Ref sig .tc := ⟨.hbm, 246, rfl⟩
abbrev main_call0_v167 : Ref sig .tc := ⟨.hbm, 247, rfl⟩
abbrev main_call0_v168 : Ref sig .tc := ⟨.hbm, 248, rfl⟩
abbrev main_call0_v169 : Ref sig .tc := ⟨.hbm, 249, rfl⟩
abbrev main_call0_v170 : Ref sig .tc := ⟨.hbm, 250, rfl⟩
abbrev main_v26_0 : Ref sig .tc := ⟨.hbm, 251, rfl⟩
abbrev main_call0_v172 : Ref sig .tc := ⟨.hbm, 252, rfl⟩
abbrev main_call0_v173 : Ref sig .tc := ⟨.hbm, 253, rfl⟩
abbrev main_call0_c_44 : Ref sig .tc := ⟨.hbm, 254, rfl⟩
abbrev main_call0_v174 : Ref sig .tc := ⟨.hbm, 255, rfl⟩
abbrev main_v26_1 : Ref sig .tc := ⟨.hbm, 256, rfl⟩
abbrev main_v27 : Ref sig .tc := ⟨.hbm, 257, rfl⟩
abbrev main_c_5 : Ref sig .tc := ⟨.hbm, 258, rfl⟩
abbrev main_v28 : Ref sig .tc := ⟨.hbm, 259, rfl⟩
abbrev main_v29 : Ref sig .tc := ⟨.hbm, 260, rfl⟩
abbrev main_c_6 : Ref sig .tc := ⟨.hbm, 261, rfl⟩
abbrev main_v30 : Ref sig .tc := ⟨.hbm, 262, rfl⟩
abbrev main_v31 : Ref sig .tc := ⟨.hbm, 263, rfl⟩
abbrev main_v32 : Ref sig .tc := ⟨.hbm, 264, rfl⟩
abbrev main_cst : Ref sig .tc := ⟨.hbm, 265, rfl⟩
abbrev main_v33 : Ref sig .tc := ⟨.hbm, 266, rfl⟩
abbrev main_v34 : Ref sig .tc := ⟨.hbm, 267, rfl⟩
abbrev main_cst_7 : Ref sig .tc := ⟨.hbm, 268, rfl⟩
abbrev main_v35 : Ref sig .tc := ⟨.hbm, 269, rfl⟩
abbrev main_v36 : Ref sig .tc := ⟨.hbm, 270, rfl⟩
abbrev main_cst_8 : Ref sig .tc := ⟨.hbm, 271, rfl⟩
abbrev main_v37 : Ref sig .tc := ⟨.hbm, 272, rfl⟩
abbrev main_v38 : Ref sig .tc := ⟨.hbm, 273, rfl⟩
abbrev main_cst_9 : Ref sig .tc := ⟨.hbm, 274, rfl⟩
abbrev main_v39 : Ref sig .tc := ⟨.hbm, 275, rfl⟩
abbrev main_v40 : Ref sig .tc := ⟨.hbm, 276, rfl⟩
abbrev main_v41 : Ref sig .tc := ⟨.hbm, 277, rfl⟩
abbrev main_v42 : Ref sig .tc := ⟨.hbm, 278, rfl⟩
abbrev main_v43 : Ref sig .tc := ⟨.hbm, 279, rfl⟩
abbrev main_v44 : Ref sig .tc := ⟨.hbm, 280, rfl⟩
abbrev main_v45 : Ref sig .tc := ⟨.hbm, 281, rfl⟩
abbrev main_call1_v0 : Ref sig .tc := ⟨.hbm, 282, rfl⟩
abbrev main_call1_cst : Ref sig .tc := ⟨.hbm, 283, rfl⟩
abbrev main_call1_c : Ref sig .tc := ⟨.hbm, 284, rfl⟩
abbrev main_call1_v1_0 : Ref sig .tc := ⟨.hbm, 285, rfl⟩
abbrev main_v46 : Ref sig .tc := ⟨.hbm, 286, rfl⟩

abbrev nD : Nat := 1
abbrev τ : Topo := Topo.v7x

variable {F : FTy → Type} [FloatOps F]
-- ==== Proof.Run.Ring.lean ====
/-
  The transfer ring of the kernel.

  The transposed weights stay outside the vector memory and are read in twenty chunks of 5000 rows. Three slots of a
  vector-memory buffer hold the chunks, each slot with a DMA semaphore of its own: chunk `k` goes through slot `k % 3`.
  This module names a chunk, a slot and a slot's semaphore, shows that the slices the body takes are these, and says what
  it is for a chunk to be at home, for a slot to be free and for a slot to be in flight.
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the run: the pipeline's own part, beside the counters the kernel's transfers use. -/
abbrev UU (nD : Nat) (τ : Topo) : Type := UR sig nD τ × Counters
local notation "𝕄" => MT nD τ sig Unit (Elt F) ℕ (UU nD τ) ℕ
/-- No loop needs a variant beside its trips. -/
abbrev 𝒱₀ : Variants := Variants.none

omit [FloatOps F] in
/-- Equal assertions entail each other. -/
theorem entails_of_eq {P Q : sProp 𝕄} (e : P = Q) : P ⊢ Q := e ▸ .rfl

/-! ## A chunk of the weights, a slot of the buffer, a slot's semaphore -/

/-- The transposed weights, the ring, and the two small buffers. -/
abbrev wM : Memref sig .tc .hbm S100000x128 .f32 := Memref.whole main_call0_v0
abbrev bufM : Memref sig .tc .vmem S3x5000x128 .f32 := Memref.whole cc0_scratch0
abbrev maxM : Memref sig .tc .vmem S8x1 .f32 := Memref.whole cc0_scratch1
abbrev idxM : Memref sig .tc .vmem S8x1 .i32 := Memref.whole cc0_scratch2

/-- Where chunk `b` starts. -/
abbrev chunkOff (b : Fin 20) : Fin 2 → Nat := ![b.val * 5000, 0]
/-- A chunk lies within the weights. -/
theorem chunkOff_inb (b : Fin 20) : ∀ a, chunkOff b a + S5000x128.size a ≤ S100000x128.size a := by
  have := b.isLt; intro a; fin_cases a
  · show b.val * 5000 + 5000 ≤ 100000; omega
  · show 0 + 128 ≤ 128; omega
/-- Where slot `s` starts. -/
abbrev slotOff (s : Fin 3) : Fin 3 → Nat := ![s.val, 0, 0]
/-- A slot lies within the buffer. -/
theorem slotOff_inb (s : Fin 3) : ∀ a, slotOff s a + S1x5000x128.size a ≤ S3x5000x128.size a := by
  have := s.isLt; intro a; fin_cases a
  · show s.val + 1 ≤ 3; omega
  · show 0 + 5000 ≤ 5000; omega
  · show 0 + 128 ≤ 128; omega
/-- Where semaphore `s` stands. -/
abbrev semOff (s : Fin 3) : Fin 1 → Nat := ![s.val]
/-- A slot's semaphore is one of the three. -/
theorem semOff_inb (s : Fin 3) : ∀ a, semOff s a + S1.size a ≤ S3.size a := by
  have := s.isLt; intro a; fin_cases a; show s.val + 1 ≤ 3; omega
/-- Where row `b` of the bias starts. -/
abbrev biasOff (b : Fin 20) : Fin 3 → Nat := ![b.val, 0, 0]

/-- Chunk `b` of the transposed weights: rows `5000 b` to `5000 b + 4999`. -/
def chunk (b : Fin 20) : Memref sig .tc .hbm S5000x128 .f32 :=
  wM.slice (Rect.unit (s := S100000x128) (chunkOff b) S5000x128.size (chunkOff_inb b)) (fun _ => rfl)
/-- Slot `s` of the buffer. -/
def rslot (s : Fin 3) : Memref sig .tc .vmem S5000x128 .f32 :=
  (bufM.slice (Rect.unit (s := S3x5000x128) (slotOff s) S1x5000x128.size (slotOff_inb s)) (fun _ => rfl)).squeeze S5000x128 squeezes_S1x5000x128_S5000x128
/-- Slot `s`'s semaphore. -/
def csm (s : Fin 3) : DmaSems sig S_ := (cc0_scratch3.slice (Rect.unit (s := S3) (semOff s) S1.size (semOff_inb s))).squeeze S_ squeezes_S1_S_

instance (s : Fin 3) : ClosedOff (slotOff s) := ⟨slotOff s, rfl⟩
instance (b : Fin 20) : ClosedOff (chunkOff b) := ⟨chunkOff b, rfl⟩

/-! ## The offsets a trip computes -/

/-- There are twenty trips. -/
theorem trips_eq : k0_t1_loop.trips = 20 := by decide

theorem off1_eq : ∀ k : Fin k0_t1_loop.trips, k0_off1 k = semOff (Ring.sl 3 k.val) := by decide +kernel
theorem off2_eq : ∀ k : Fin k0_t1_loop.trips, k0_off2 k = slotOff (Ring.sl 3 k.val) := by decide +kernel
theorem off3_eq : ∀ k : Fin k0_t1_loop.trips, k0_off3 k = chunkOff (Ring.bk 20 k.val) := by decide +kernel
theorem off4_eq : ∀ k : Fin k0_t1_loop.trips, k0_off4 k = slotOff (Ring.sl 3 k.val) := by decide +kernel
theorem off5_eq : ∀ k : Fin k0_t1_loop.trips, k0_off5 k = biasOff (Ring.bk 20 k.val) := by decide +kernel
theorem off6_eq : ∀ k : Fin k0_t1_loop.trips, k0_off6 k = semOff (Ring.sl 3 k.val) := by decide +kernel
theorem off7_eq : ∀ k : Fin k0_t1_loop.trips, k0_off7 k = slotOff (Ring.sl 3 k.val) := by decide +kernel
/-- The chunk a trip asks for is three ahead, when there is one. -/
theorem off8_eq : ∀ k : Fin k0_t1_loop.trips, k.val + 3 < 20 → k0_off8 k = chunkOff (Ring.bk 20 (k.val + 3)) := by decide +kernel
/-- A trip asks for a chunk just when there is one three ahead. -/
theorem cond1_iff : ∀ k : Fin k0_t1_loop.trips, k0_cond1 k = 1#1 ↔ k.val + 3 < 20 := by decide +kernel

instance (k : Fin k0_t1_loop.trips) : ClosedOff (k0_off4 k) := ⟨slotOff (Ring.sl 3 k.val), off4_eq k⟩
instance (k : Fin k0_t1_loop.trips) : ClosedOff (k0_off2 k) := ⟨slotOff (Ring.sl 3 k.val), off2_eq k⟩
instance (k : Fin k0_t1_loop.trips) : ClosedOff (k0_off5 k) := ⟨biasOff (Ring.bk 20 k.val), off5_eq k⟩

/-! ## The body's slices are the named ones -/

/-- Slices at equal offsets are equal: a semaphore, -/
theorem csm_congr {off : Fin 1 → Nat} {s : Fin 3} (e : off = semOff s) (hh) :
    (cc0_scratch3.slice (Rect.unit (s := S3) off S1.size hh)).squeeze S_ squeezes_S1_S_ = csm s :=
  congrArg (fun A : DmaSems sig S1 => A.squeeze S_ squeezes_S1_S_) (SemArray.slice_unit_congr _ e _ _)
/-- a slot, -/
theorem rslot_congr {off : Fin 3 → Nat} {s : Fin 3} (e : off = slotOff s) (hh hs) :
    (bufM.slice (Rect.unit (s := S3x5000x128) off S1x5000x128.size hh) hs).squeeze S5000x128 squeezes_S1x5000x128_S5000x128 = rslot s :=
  congrArg (fun M : Memref sig .tc .vmem S1x5000x128 .f32 => M.squeeze S5000x128 squeezes_S1x5000x128_S5000x128) (Memref.slice_unit_congr _ e _ _ _ _)
/-- a chunk. -/
theorem chunk_congr {off : Fin 2 → Nat} {b : Fin 20} (e : off = chunkOff b) (hh hs) :
    wM.slice (Rect.unit (s := S100000x128) off S5000x128.size hh) hs = chunk b :=
  Memref.slice_unit_congr _ e _ _ _ (fun _ => rfl)

/-- Before the loop: slots, semaphores and chunks 0, 1 and 2. -/
@[sl_canon] theorem semL0 (hh) : (cc0_scratch3.slice (Rect.unit (s := S3) ![0] S1.size hh)).squeeze S_ squeezes_S1_S_ = csm 0 := csm_congr (by decide) _
@[sl_canon] theorem semL1 (hh) : (cc0_scratch3.slice (Rect.unit (s := S3) ![1] S1.size hh)).squeeze S_ squeezes_S1_S_ = csm 1 := csm_congr (by decide) _
@[sl_canon] theorem semL2 (hh) : (cc0_scratch3.slice (Rect.unit (s := S3) ![2] S1.size hh)).squeeze S_ squeezes_S1_S_ = csm 2 := csm_congr (by decide) _
@[sl_canon] theorem slotL0 (hh hs) : (bufM.slice (Rect.unit (s := S3x5000x128) ![0, 0, 0] S1x5000x128.size hh) hs).squeeze S5000x128 squeezes_S1x5000x128_S5000x128 = rslot 0 := rslot_congr (by decide) _ _
@[sl_canon] theorem slotL1 (hh hs) : (bufM.slice (Rect.unit (s := S3x5000x128) ![1, 0, 0] S1x5000x128.size hh) hs).squeeze S5000x128 squeezes_S1x5000x128_S5000x128 = rslot 1 := rslot_congr (by decide) _ _
@[sl_canon] theorem slotL2 (hh hs) : (bufM.slice (Rect.unit (s := S3x5000x128) ![2, 0, 0] S1x5000x128.size hh) hs).squeeze S5000x128 squeezes_S1x5000x128_S5000x128 = rslot 2 := rslot_congr (by decide) _ _
@[sl_canon] theorem chunkL0 (hh hs) : wM.slice (Rect.unit (s := S100000x128) ![0, 0] S5000x128.size hh) hs = chunk 0 := chunk_congr (by decide) _ _
@[sl_canon] theorem chunkL1 (hh hs) : wM.slice (Rect.unit (s := S100000x128) ![5000, 0] S5000x128.size hh) hs = chunk 1 := chunk_congr (by decide) _ _
@[sl_canon] theorem chunkL2 (hh hs) : wM.slice (Rect.unit (s := S100000x128) ![10000, 0] S5000x128.size hh) hs = chunk 2 := chunk_congr (by decide) _ _

/-- In trip `k`: slot and semaphore `k % 3`, chunk `k` waited for, chunk `k + 3` asked for. -/
@[sl_canon] theorem semK (k : Fin k0_t1_loop.trips) (hh) :
    (cc0_scratch3.slice (Rect.unit (s := S3) (k0_off1 k) S1.size hh)).squeeze S_ squeezes_S1_S_ = csm (Ring.sl 3 k.val) := csm_congr (off1_eq k) _
@[sl_canon] theorem slotK (k : Fin k0_t1_loop.trips) (hh hs) :
    (bufM.slice (Rect.unit (s := S3x5000x128) (k0_off2 k) S1x5000x128.size hh) hs).squeeze S5000x128 squeezes_S1x5000x128_S5000x128 = rslot (Ring.sl 3 k.val) := rslot_congr (off2_eq k) _ _
@[sl_canon] theorem chunkW (k : Fin k0_t1_loop.trips) (hh hs) :
    wM.slice (Rect.unit (s := S100000x128) (k0_off3 k) S5000x128.size hh) hs = chunk (Ring.bk 20 k.val) := chunk_congr (off3_eq k) _ _
@[sl_canon] theorem semI (k : Fin k0_t1_loop.trips) (hh) :
    (cc0_scratch3.slice (Rect.unit (s := S3) (k0_off6 k) S1.size hh)).squeeze S_ squeezes_S1_S_ = csm (Ring.sl 3 k.val) := csm_congr (off6_eq k) _
@[sl_canon] theorem slotI (k : Fin k0_t1_loop.trips) (hh hs) :
    (bufM.slice (Rect.unit (s := S3x5000x128) (k0_off7 k) S1x5000x128.size hh) hs).squeeze S5000x128 squeezes_S1x5000x128_S5000x128 = rslot (Ring.sl 3 k.val) := rslot_congr (off7_eq k) _ _
@[sl_canon] theorem chunkI (k : Fin k0_t1_loop.trips) (hk : k.val + 3 < 20) (hh hs) :
    wM.slice (Rect.unit (s := S100000x128) (k0_off8 k) S5000x128.size hh) hs = chunk (Ring.bk 20 (k.val + 3)) := chunk_congr (off8_eq k hk) _ _

/-! ## A chunk at home, a slot held, a slot in flight -/

section Pieces
variable (c : Dev nD) (XA : Buf (Elt F) (wM.view.loc (c : Thread nD τ)))

/-- Slot `s`'s semaphore at zero. -/
abbrev cellP (s : Fin 3) : sProp 𝕄 := semVal ((c : Thread nD τ), SemLoc.dma (csm s).sem) 0
/-- Slot `s` held at contents `f`. -/
abbrev slotP (s : Fin 3) (f : Buf (Elt F) ((rslot s).view.loc (c : Thread nD τ))) : sProp 𝕄 :=
  (rslot s).view.loc (c : Thread nD τ) ↦[(rslot s).view.set]{fullShare} f
/-- Chunk `b` at home: held at the weights' contents. -/
abbrev homeP (b : Fin 20) : sProp 𝕄 := (chunk b).view.loc (c : Thread nD τ) ↦[(chunk b).view.set]{fullShare} XA
/-- The words of chunk `b`. -/
abbrev payload (b : Fin 20) : S5000x128.Idx → Elt F .f32 := ReadAs.same.apply ((chunk b).view.read (Elt F) XA)
/-- Slot `s` once chunk `b` has been written over contents `f`. -/
abbrev landed (s : Fin 3) (b : Fin 20) (f : Buf (Elt F) ((rslot s).view.loc (c : Thread nD τ))) : Buf (Elt F) ((rslot s).view.loc (c : Thread nD τ)) :=
  (rslot s).view.writes (Elt F) f [⟨Rect.whole S5000x128, payload c XA b⟩]
/-- The amount a chunk's transfer pays its semaphore. -/
abbrev NN (s : Fin 3) : ℕ := 80000
/-- Slot `s` in flight with chunk `b`, issued over contents `f`. -/
abbrev flightP (s : Fin 3) (b : Fin 20) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)
/-- Slot `s` free: its semaphore at zero, its words anything. -/
abbrev freeP (s : Fin 3) : sProp 𝕄 := iprop(∃ f, cellP c s ∗ slotP c s f)
/-- Slot `s` in flight with chunk `b`, over some contents. -/
abbrev inflP (s : Fin 3) (b : Fin 20) : sProp 𝕄 := iprop(∃ f, flightP c XA s b f)
/-- What chunk number `p` has of its slot: in flight while the chunk exists, else free. -/
abbrev roleP (p : ℕ) : sProp 𝕄 := Ring.roleAt (freeP c (Ring.sl 3 p)) (inflP c XA (Ring.sl 3 p)) p

/-- Before trip `k`, chunk `k + 3` is at home beside the rest. -/
theorem homes_here (k : ℕ) (hk : k + 3 < 20) :
    bigSep (Ring.homeSet 3 k) (homeP c XA) = iprop(homeP c XA (Ring.bk 20 (k + 3)) ∗ bigSep ((Ring.homeSet 3 k).erase (Ring.bk 20 (k + 3))) (homeP c XA)) := by
  conv_lhs => rw [Ring.homeSet_out 3 k hk, bigSep_insert (Ring.bkL_not_mem_erase 3 k)]
  rfl
/-- After a trip that issues, chunk `k` is back at home beside that rest. -/
theorem homes_next (k : ℕ) (hk : k + 3 < 20) :
    bigSep (Ring.homeSet 3 (k + 1)) (homeP c XA) = iprop(homeP c XA (Ring.bk 20 k) ∗ bigSep ((Ring.homeSet 3 k).erase (Ring.bk 20 (k + 3))) (homeP c XA)) := by
  conv_lhs => rw [Ring.homeSet_succ 3 k hk, bigSep_insert (Ring.bk_not_mem_erase 3 k (by omega) (by decide))]
  rfl
/-- After a trip that issues nothing, chunk `k` is back at home beside all that were. -/
theorem homes_tail (k : ℕ) (h : 20 ≤ k + 3) (hk : k < 20) :
    bigSep (Ring.homeSet 3 (k + 1)) (homeP c XA) = iprop(homeP c XA (Ring.bk 20 k) ∗ bigSep (Ring.homeSet 3 k) (homeP c XA)) := by
  conv_lhs => rw [Ring.homeSet_succ_tail 3 k h hk, bigSep_insert (Ring.bk_not_mem_homeSet 3 k hk (by decide))]
  rfl

/-- Slot of chunk `k + 3` is that of chunk `k`. -/
theorem role_turn (k : ℕ) : roleP c XA (k + 1 + 2) = Ring.roleAt (freeP c (Ring.sl 3 k)) (inflP c XA (Ring.sl 3 k)) (k + 3) := by
  unfold roleP; rw [Ring.sl_succ_add 3 k 2 rfl]

/-- A transfer of chunk `b'` issued over a slot where chunk `b` has landed, written out. -/
theorem flightP_after (s : Fin 3) (b b' : Fin 20) :
    flightP c XA s b' ((rslot s).view.writes (Elt F) (rslot s).view.junk [⟨Rect.whole S5000x128, payload c XA b⟩])
      = Transfers.Flight countersEmb (c : Thread nD τ) (SemLoc.dma (csm s).sem) () 80000
          iprop(((rslot s).view.loc (c : Thread nD τ) ↦[(rslot s).view.set]{fullShare}
                  (rslot s).view.writes (Elt F) (rslot s).view.junk [⟨Rect.whole S5000x128, payload c XA b'⟩, ⟨Rect.whole S5000x128, payload c XA b⟩])
                ∗ homeP c XA b') := by
  simp only [flightP, landed, slotP, NN, View.writes]

end Pieces

end Cert.Proof.Run

end
-- ==== Proof.Run.Trip.lean ====
/-
  One trip of the kernel's loop over the chunks, and the loop.
-/
module

public import proofs.«01_k».proof.Proof.Run.Ring

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip

variable (c : Dev nD) (XA : Buf (Elt F) (wM.view.loc (c : Thread nD τ)))
  (arg0 : Memref sig .tc .vmem S8x128 .f32) (harg0 : arg0.IsWhole)
  (arg2 : Memref sig .tc .vmem S20x1x5000 .f32) (harg2 : arg2.IsWhole)
  (arg3 : Memref sig .tc .vmem S8x1 .i32) (harg3 : arg3.IsWhole)

/-- A buffer of vector memory held whole at contents `f`. -/
abbrev heldP {s : Shape} {e : EltTy} (M : Memref sig .tc .vmem s e) (f : Buf (Elt F) (M.view.loc (c : Thread nD τ))) : sProp 𝕄 :=
  M.view.loc (c : Thread nD τ) ↦[M.view.set]{fullShare} f

variable (gx : Buf (Elt F) (arg0.view.loc (c : Thread nD τ))) (gb : Buf (Elt F) (arg2.view.loc (c : Thread nD τ)))

/-- What is held before trip `k`, the running maximum at `fm` and its index at `fi`. -/
def resAt (k : ℕ) (fm : Buf (Elt F) (maxM.view.loc (c : Thread nD τ))) (fi : Buf (Elt F) (idxM.view.loc (c : Thread nD τ))) : sProp 𝕄 :=
  iprop(heldP c arg0 gx ∗ heldP c arg2 gb ∗ heldP c maxM fm ∗ heldP c idxM fi ∗ (∃ W, owes (c : Thread nD τ) 0 W)
    ∗ bigSep (Ring.homeSet 3 k) (homeP c XA)
    ∗ roleP c XA k ∗ roleP c XA (k + 1) ∗ roleP c XA (k + 2))

/-- One trip's program. -/
abbrev tripG (k : Fin k0_t1_loop.trips) : Prog (TpuEff nD τ sig (Elt F) Λ₀ .tc) Unit :=
  k0_t1_body (F := F) arg0 harg0 wM (Memref.isWhole_whole _) arg2 harg2 arg3 harg3 bufM (Memref.isWhole_whole _)
    maxM (Memref.isWhole_whole _) idxM (Memref.isWhole_whole _) cc0_scratch3 k ()

/-- The whole of a small buffer. -/
abbrev R81 : Rect S8x1 := Rect.unit (s := S8x1) ![0, 0] S8x1.size inb_S8x1_S8x1_0_0

set_option backward.proofsInPublic true in
/-- One trip. -/
def tripRun (k : Fin k0_t1_loop.trips) (fm : Buf (Elt F) (maxM.view.loc (c : Thread nD τ))) (fi : Buf (Elt F) (idxM.view.loc (c : Thread nD τ))) :
    { w : ((R81).shape.Idx → Elt F .f32) × ((R81).shape.Idx → Elt F .i32) //
      resAt c XA arg0 arg2 gx gb k fm fi ⊢ wp frame (wpE (defs₀ (F := F)) 𝒱₀ (c : Thread nD τ) none) Set.univ (tripG arg0 harg0 arg2 harg2 arg3 harg3 k)
        (fun _ => resAt c XA arg0 arg2 gx gb (k.val + 1) (maxM.view.writes (Elt F) fm [⟨R81, w.1⟩]) (idxM.view.writes (Elt F) fi [⟨R81, w.2⟩])) } := by
  refine ⟨(?_, ?_), ?run⟩
  case run =>
    have hk : k.val < 20 := Nat.lt_of_lt_of_eq k.isLt trips_eq
    unfold resAt
    rw [role_turn]
    rw [show roleP c XA k.val = inflP c XA (Ring.sl 3 k.val) (Ring.bk 20 k.val) from Ring.roleAt_of_lt _ _ _ hk]
    iintro ⟨HX, HB, HM, HI, ⟨%W, HW⟩, Hh, ⟨%f0, HF0⟩, HR1, HR2⟩
    dsimp only [tripG]
    sl_unfold [k0_t1_body]
    set_option sl_exec.stopBefore "k0_cond1" in sl_exec
    by_cases h : k.val + 3 < 20
    · have h1 : k0_cond1 k = 1#1 := (cond1_iff k).2 h
      ihave Hh2 := (entails_of_eq (homes_here c XA k.val h)) $$ Hh
      icases Hh2 with ⟨Hg, Hrest⟩
      sl_exec
      sl_step
      isplitl [HX]; · iexact HX
      isplitl [HB]; · iexact HB
      isplitl [HM]; · iexact HM
      isplitl [HI]; · iexact HI
      isplitl [HW]; · iexists _; iexact HW
      isplitl [HF0_src Hrest]
      · irw [homes_next c XA k.val h]
        isplitl [HF0_src]; · iexact HF0_src
        iexact Hrest
      isplitl [HR1]; · iexact HR1
      isplitl [HR2]; · iexact HR2
      irw [Ring.roleAt_of_lt _ _ (k.val + 3) h]
      iexists ((rslot (Ring.sl 3 k.val)).view.writes (Elt F) (rslot (Ring.sl 3 k.val)).view.junk [⟨Rect.whole S5000x128, payload c XA (Ring.bk 20 k.val)⟩])
      irw [flightP_after]
      iexact HF0
    · have h1 : ¬ k0_cond1 k = 1#1 := fun e => h ((cond1_iff k).1 e)
      sl_exec
      sl_step
      isplitl [HX]; · iexact HX
      isplitl [HB]; · iexact HB
      isplitl [HM]; · iexact HM
      isplitl [HI]; · iexact HI
      isplitl [HW]; · iexists _; iexact HW
      isplitl [HF0_src Hh]
      · irw [homes_tail c XA k.val (by omega) hk]
        isplitl [HF0_src]; · iexact HF0_src
        iexact Hh
      isplitl [HR1]; · iexact HR1
      isplitl [HR2]; · iexact HR2
      irw [Ring.roleAt_of_le _ _ (k.val + 3) (show 20 ≤ k.val + 3 by omega)]
      iexists _
      isplitl [HF0]; · iexact HF0
      iexact HF0_dst

end Trip

end Cert.Proof.Run

end
-- ==== Proof.Run.Body.lean ====
/-
  The kernel body.

  The loop carries nothing but the two small buffers, the running maximum and its index; their contents before each trip
  are a recursion over the trips. Around the loop the body starts three transfers and, after it, copies the index buffer
  to the result's.
-/
module

public import proofs.«01_k».proof.Proof.Run.Trip

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body

variable (c : Dev nD) (XA : Buf (Elt F) (wM.view.loc (c : Thread nD τ)))
  (arg0 : Memref sig .tc .vmem S8x128 .f32) (harg0 : arg0.IsWhole)
  (arg2 : Memref sig .tc .vmem S20x1x5000 .f32) (harg2 : arg2.IsWhole)
  (arg3 : Memref sig .tc .vmem S8x1 .i32) (harg3 : arg3.IsWhole)
  (gx : Buf (Elt F) (arg0.view.loc (c : Thread nD τ))) (gb : Buf (Elt F) (arg2.view.loc (c : Thread nD τ)))

/-- The contents of the maximum's buffer and of the index's before trip `k`, from what they hold when the loop begins. -/
def acc (fm0 : Buf (Elt F) (maxM.view.loc (c : Thread nD τ))) (fi0 : Buf (Elt F) (idxM.view.loc (c : Thread nD τ))) :
    ℕ → Buf (Elt F) (maxM.view.loc (c : Thread nD τ)) × Buf (Elt F) (idxM.view.loc (c : Thread nD τ))
  | 0 => (fm0, fi0)
  | k + 1 =>
    if h : k < k0_t1_loop.trips then
      (maxM.view.writes (Elt F) (acc fm0 fi0 k).1 [⟨R81, (tripRun c XA arg0 harg0 arg2 harg2 arg3 harg3 gx gb ⟨k, h⟩ (acc fm0 fi0 k).1 (acc fm0 fi0 k).2).1.1⟩],
       idxM.view.writes (Elt F) (acc fm0 fi0 k).2 [⟨R81, (tripRun c XA arg0 harg0 arg2 harg2 arg3 harg3 gx gb ⟨k, h⟩ (acc fm0 fi0 k).1 (acc fm0 fi0 k).2).1.2⟩])
    else acc fm0 fi0 k

/-- The buffers after trip `k` are the trip's stores over those before it. -/
theorem acc_succ (fm0 fi0) (k : Fin k0_t1_loop.trips) :
    acc c XA arg0 harg0 arg2 harg2 arg3 harg3 gx gb fm0 fi0 (k.val + 1) =
      (maxM.view.writes (Elt F) (acc c XA arg0 harg0 arg2 harg2 arg3 harg3 gx gb fm0 fi0 k).1 [⟨R81, (tripRun c XA arg0 harg0 arg2 harg2 arg3 harg3 gx gb k (acc c XA arg0 harg0 arg2 harg2 arg3 harg3 gx gb fm0 fi0 k).1 (acc c XA arg0 harg0 arg2 harg2 arg3 harg3 gx gb fm0 fi0 k).2).1.1⟩],
       idxM.view.writes (Elt F) (acc c XA arg0 harg0 arg2 harg2 arg3 harg3 gx gb fm0 fi0 k).2 [⟨R81, (tripRun c XA arg0 harg0 arg2 harg2 arg3 harg3 gx gb k (acc c XA arg0 harg0 arg2 harg2 arg3 harg3 gx gb fm0 fi0 k).1 (acc c XA arg0 harg0 arg2 harg2 arg3 harg3 gx gb fm0 fi0 k).2).1.2⟩]) := by
  rw [acc, dif_pos k.isLt]

set_option warn.classDefReducibility false in
/-- Before trip `k` the loop holds what `resAt` says, the two small buffers at `acc`. -/
@[sl_loop] def loopInv (fm0 : Buf (Elt F) (maxM.view.loc (c : Thread nD τ))) (fi0 : Buf (Elt F) (idxM.view.loc (c : Thread nD τ))) :
    LoopInvTy_k0_t1 (F := F) Unit ℕ (UU nD τ) ℕ 𝒱₀ c none Set.univ arg0 harg0 wM (Memref.isWhole_whole _) arg2 harg2 arg3 harg3
      bufM (Memref.isWhole_whole _) maxM (Memref.isWhole_whole _) idxM (Memref.isWhole_whole _) cc0_scratch3 where
  inv k _ := resAt c XA arg0 arg2 gx gb k (acc c XA arg0 harg0 arg2 harg2 arg3 harg3 gx gb fm0 fi0 k).1
    (acc c XA arg0 harg0 arg2 harg2 arg3 harg3 gx gb fm0 fi0 k).2
  step k _ := by
    have e := acc_succ c XA arg0 harg0 arg2 harg2 arg3 harg3 gx gb fm0 fi0 k
    rw [e]
    exact (tripRun c XA arg0 harg0 arg2 harg2 arg3 harg3 gx gb k _ _).2

/-- The body on the given staging buffers; the weights, the slots and the two small buffers are its own. -/
abbrev bodyG : Prog (TpuEff nD τ sig (Elt F) Λ₀ .tc) PUnit :=
  cc0__sample_kernel arg0 harg0 wM (Memref.isWhole_whole _) arg2 harg2 arg3 harg3 bufM (Memref.isWhole_whole _)
    maxM (Memref.isWhole_whole _) idxM (Memref.isWhole_whole _) cc0_scratch3

/-- What the body is handed. -/
abbrev PRE (g3 : Buf (Elt F) (arg3.view.loc (c : Thread nD τ))) (fm0 : Buf (Elt F) (maxM.view.loc (c : Thread nD τ)))
    (fi0 : Buf (Elt F) (idxM.view.loc (c : Thread nD τ))) (W : Waits sig Unit) : sProp 𝕄 :=
  iprop(heldP c arg0 gx ∗ heldP c arg2 gb ∗ heldP c arg3 g3 ∗ heldP c maxM fm0 ∗ heldP c idxM fi0
    ∗ homeP c XA 0 ∗ homeP c XA 1 ∗ homeP c XA 2 ∗ bigSep (Ring.homeSet 3 0) (homeP c XA)
    ∗ (∃ f, slotP c 0 f) ∗ (∃ f, slotP c 1 f) ∗ (∃ f, slotP c 2 f) ∗ cellP c 0 ∗ cellP c 1 ∗ cellP c 2 ∗ owes (c : Thread nD τ) 0 W)

/-- What it hands back, the result's staging buffer at `out`. -/
abbrev POST (out : Buf (Elt F) (arg3.view.loc (c : Thread nD τ))) : sProp 𝕄 :=
  iprop(heldP c arg0 gx ∗ heldP c arg2 gb ∗ heldP c arg3 out ∗ (∃ f, heldP c maxM f) ∗ (∃ f, heldP c idxM f)
    ∗ bigSep Finset.univ (homeP c XA)
    ∗ (∃ f, slotP c 0 f) ∗ (∃ f, slotP c 1 f) ∗ (∃ f, slotP c 2 f) ∗ cellP c 0 ∗ cellP c 1 ∗ cellP c 2 ∗ ∃ W, owes (c : Thread nD τ) 0 W)

/-- The slots and chunks of the first three copies, by number. -/
theorem sl3_0 : Ring.sl 3 0 = 0 := rfl
theorem sl3_1 : Ring.sl 3 (0 + 1) = 1 := rfl
theorem sl3_2 : Ring.sl 3 (0 + 2) = 2 := rfl
theorem bk20_0 : Ring.bk 20 0 = 0 := rfl
theorem bk20_1 : Ring.bk 20 (0 + 1) = 1 := rfl
theorem bk20_2 : Ring.bk 20 (0 + 2) = 2 := rfl

/-- The result's staging buffer after the body: the index buffer after the twenty trips. -/
def outOf (fm0 : Buf (Elt F) (maxM.view.loc (c : Thread nD τ))) (fi0 : Buf (Elt F) (idxM.view.loc (c : Thread nD τ)))
    (g3 : Buf (Elt F) (arg3.view.loc (c : Thread nD τ))) : Buf (Elt F) (arg3.view.loc (c : Thread nD τ)) :=
  arg3.view.writes (Elt F) g3 [⟨R81, View.readAt (Elt F) idxM.view R81.toLoadRect
    (acc c XA arg0 harg0 arg2 harg2 arg3 harg3 gx gb fm0 fi0 k0_t1_loop.trips).2⟩]

/-- After the last trip the three roles are those of slots 2, 0 and 1, -/
theorem sl3_exit0 : Ring.sl 3 k0_t1_loop.trips = 2 := by rw [trips_eq]; rfl
/-- The slots after the last trip. -/
theorem sl3_exit1 : Ring.sl 3 (k0_t1_loop.trips + 1) = 0 := by rw [trips_eq]; rfl
theorem sl3_exit2 : Ring.sl 3 (k0_t1_loop.trips + 2) = 1 := by rw [trips_eq]; rfl
/-- and all chunks are at home. -/
theorem homes_exit : (Ring.homeSet 3 k0_t1_loop.trips : Finset (Fin 20)) = Finset.univ := by
  rw [trips_eq]; exact Ring.homeSet_last 3 20 (by decide)

/-- A free slot under another name. -/
theorem free_as {s s' : Fin 3} (e : s = s') : (freeP c s : sProp 𝕄) ⊢ freeP c s' := e ▸ .rfl

attribute [local sl_canon] sl3_0 sl3_1 sl3_2 bk20_0 bk20_1 bk20_2 in
/-- The body: from `PRE` to `POST`, the result's buffer at `outOf`. -/
theorem bodyRun (g3 fm0 fi0 W) (Q : PUnit → sProp 𝕄) :
    iprop(PRE c XA arg0 arg2 arg3 gx gb g3 fm0 fi0 W
        ∗ (POST c XA arg0 arg2 arg3 gx gb (outOf c XA arg0 harg0 arg2 harg2 arg3 harg3 gx gb fm0 fi0 g3) -∗ Q ⟨⟩))
      ⊢ wp frame (wpE (defs₀ (F := F)) 𝒱₀ (c : Thread nD τ) none) Set.univ (bodyG arg0 harg0 arg2 harg2 arg3 harg3) Q := by
  iintro ⟨⟨HX, HB, HO, HM, HI, Hg0, Hg1, Hg2, Hh, ⟨%f0, Hs0⟩, ⟨%f1, Hs1⟩, ⟨%f2, Hs2⟩, Hc0, Hc1, Hc2, HW⟩, Hk⟩
  sl_exec
  sl_step
  iapply Hk
  isplitl [HX]; · iexact HX
  isplitl [HB]; · iexact HB
  isplitl [HO]; · iexact HO
  isplitl [HM]; · iexists _; iexact HM
  isplitl [HI]; · iexists _; iexact HI
  isplitl [Hh]; · iapply (entails_of_eq (congrArg (fun S => bigSep S (homeP c XA)) homes_exit)); iexact Hh
  ihave H2 := (free_as c sl3_exit0) $$ [Hc0]
  · iexists fL1; iexact Hc0
  ihave H0 := (free_as c sl3_exit1) $$ [Hc1]
  · iexists fL2; iexact Hc1
  ihave H1 := (free_as c sl3_exit2) $$ [Hc2]
  · iexists fL3; iexact Hc2
  icases H0 with ⟨%f0', Hc0, Hs0⟩
  icases H1 with ⟨%f1', Hc1, Hs1⟩
  icases H2 with ⟨%f2', Hc2, Hs2⟩
  isplitl [Hs0]; · iexists _; iexact Hs0
  isplitl [Hs1]; · iexists _; iexact Hs1
  isplitl [Hs2]; · iexists _; iexact Hs2
  isplitl [Hc0]; · iexact Hc0
  isplitl [Hc1]; · iexact Hc1
  isplitl [Hc2]; · iexact Hc2
  iexists _; iexact HW

end Body

end Cert.Proof.Run

end
-- ==== Proof.Run.Fold.lean ====
/-
  What the two small buffers hold, as values.

  A trip reads the running maxima and their indices, compares each row's maximum of the trip's scores with the running
  one, and stores what is kept. The first trip keeps its own, whatever the buffers held: so what the body leaves depends
  on the arguments only.
-/
module

public import proofs.«01_k».proof.Proof.Run.Body
public import Idealize.ShloMosaic.Lib.VecWindow
public import Idealize.ShloMosaic.Lib.Pointwise.Reshape

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The running maxima and their indices. -/
abbrev St (F : FTy → Type) : Type := (S8x1.Idx → Elt F .f32) × (S8x1.Idx → Elt F .i32)

/-- A trip's number, as the body's word. -/
abbrev word (k : Fin k0_t1_loop.trips) : BitVec 32 := Scf.iv 0#32 1#32 k
/-- A trip's inner noise: the logarithm under the outer logarithm's sign. -/
def inner (k : Fin k0_t1_loop.trips) : FVec F S8x5000 .f32 := tripRun.sl.r_5 k
/-- What a trip stores, from its logits and what it finds. -/
def stepV (k : Fin k0_t1_loop.trips) (lg : FVec F S8x5000 .f32) (v : St F) : St F :=
  (k0_pay4 (word k) lg (inner k) k0_pay47 v.1 v.1,
   k0_pay5 (word k) lg (k0_pay7 0#32 1#32 k) (inner k) k0_pay47 v.1 v.2)

/-- At the first trip the comparison holds whatever was found. -/
theorem better_zero (k : Fin k0_t1_loop.trips) (hk : k.val = 0) (lg a b : FVec F S8x5000 .f32) (v) (y) :
    k0_pay3 (F := F) (word k) lg a b v y = 1#1 := by
  have hw : word k = 0#32 := by unfold word; rw [hk]; rfl
  have h : ∀ t : BitVec 1, IntOp.ori t 1#1 = 1#1 := by decide
  unfold k0_pay3
  rw [hw]
  exact h _

/-- so what it stores does not depend on what was found. -/
theorem stepV_zero (k : Fin k0_t1_loop.trips) (hk : k.val = 0) (lg : FVec F S8x5000 .f32) (v v' : St F) : stepV k lg v = stepV k lg v' := by
  have h : ∀ (α : Type) (a b b' : S8x1.Idx → α), select (k0_pay3 (word k) lg (inner k) k0_pay47 v.1) a b
      = select (k0_pay3 (word k) lg (inner k) k0_pay47 v'.1) a b' := fun α a b b' => by
    funext y
    simp only [select, better_zero k hk, Scalar.select]
    exact (if_pos rfl).trans (if_pos rfl).symm
  refine Prod.ext ?_ ?_
  · exact congrArg (fun x => shapeCast S8x1 x shapeCasts_S8x1_S8x1) (h _ _ v.1 v'.1)
  · exact congrArg (fun x => shapeCast S8x1 x shapeCasts_S8x1_S8x1) (h _ _ v.2 v'.2)

section Fold

variable (c : Dev nD) (XA : Buf (Elt F) (wM.view.loc (c : Thread nD τ)))
  (arg0 : Memref sig .tc .vmem S8x128 .f32) (harg0 : arg0.IsWhole)
  (arg2 : Memref sig .tc .vmem S20x1x5000 .f32) (harg2 : arg2.IsWhole)
  (arg3 : Memref sig .tc .vmem S8x1 .i32) (harg3 : arg3.IsWhole)
  (gx : Buf (Elt F) (arg0.view.loc (c : Thread nD τ))) (gb : Buf (Elt F) (arg2.view.loc (c : Thread nD τ)))

/-- A trip's logits. -/
def logits (k : Fin k0_t1_loop.trips) : FVec F S8x5000 .f32 := tripRun.sl.r c XA arg0 arg2 gx gb k

/-- The contents before trip `k`, from `v`. -/
def vals (lg : Fin k0_t1_loop.trips → FVec F S8x5000 .f32) (v : St F) : ℕ → St F
  | 0 => v
  | k + 1 => if h : k < k0_t1_loop.trips then stepV ⟨k, h⟩ (lg ⟨k, h⟩) (vals lg v k) else vals lg v k

/-- One trip more. -/
theorem vals_succ (lg : Fin k0_t1_loop.trips → FVec F S8x5000 .f32) (v : St F) (k : Fin k0_t1_loop.trips) :
    vals lg v (k.val + 1) = stepV k (lg k) (vals lg v k) := by
  rw [vals, dif_pos k.isLt]

/-- After the first trip they do not depend on what the buffers held. -/
theorem vals_indep (lg : Fin k0_t1_loop.trips → FVec F S8x5000 .f32) (v v' : St F) : ∀ k, vals lg v (k + 1) = vals lg v' (k + 1)
  | 0 => by
    have h : 0 < k0_t1_loop.trips := by rw [trips_eq]; decide
    exact (vals_succ lg v ⟨0, h⟩).trans ((stepV_zero ⟨0, h⟩ rfl _ _ _).trans (vals_succ lg v' ⟨0, h⟩).symm)
  | k + 1 => by
    rw [vals.eq_2 lg v, vals.eq_2 lg v', vals_indep lg v v' k]

/-- The small buffers read. -/
def readSt (f : Buf (Elt F) (maxM.view.loc (c : Thread nD τ)) × Buf (Elt F) (idxM.view.loc (c : Thread nD τ))) : St F :=
  (View.readAt (Elt F) maxM.view R81.toLoadRect f.1, View.readAt (Elt F) idxM.view R81.toLoadRect f.2)

/-- One trip's stores, read back, are `stepV` of what was read before. -/
theorem tripRun_val (k : Fin k0_t1_loop.trips) (fm fi) :
    (tripRun c XA arg0 harg0 arg2 harg2 arg3 harg3 gx gb k fm fi).1
      = stepV k (logits c XA arg0 arg2 gx gb k) (readSt c (fm, fi)) := rfl

/-- So the buffers before trip `k`, read, are `vals`. -/
theorem readSt_acc (fm0 fi0) : ∀ k, readSt c (acc c XA arg0 harg0 arg2 harg2 arg3 harg3 gx gb fm0 fi0 k)
    = vals (logits c XA arg0 arg2 gx gb) (readSt c (fm0, fi0)) k
  | 0 => rfl
  | k + 1 => by
    by_cases h : k < k0_t1_loop.trips
    · rw [acc_succ c XA arg0 harg0 arg2 harg2 arg3 harg3 gx gb fm0 fi0 ⟨k, h⟩, vals_succ _ _ ⟨k, h⟩, ← readSt_acc fm0 fi0 k]
      rw [tripRun_val]
      unfold readSt
      rw [View.readAt_writes_full, View.readAt_writes_full]
    · rw [acc, vals, dif_neg h, dif_neg h, readSt_acc fm0 fi0 k]

/-- What the body leaves in the result's staging buffer: the indices after the last trip. -/
def outV : S8x1.Idx → Elt F .i32 :=
  (vals (logits c XA arg0 arg2 gx gb) (fun _ => FloatOps.ofBits .f32 0#32, fun _ => 0#32) 20).2

/-- The result's staging buffer, read, is the indices after the last trip. -/
theorem read_outOf (fm0 fi0 g3) : arg3.view.read (Elt F) (outOf c XA arg0 harg0 arg2 harg2 arg3 harg3 gx gb fm0 fi0 g3)
    = outV c XA arg0 arg2 gx gb := by
  unfold outOf outV
  rw [View.read_writes_full]
  have h := congrArg Prod.snd (readSt_acc c XA arg0 harg0 arg2 harg2 arg3 harg3 gx gb fm0 fi0 k0_t1_loop.trips)
  rw [trips_eq] at h ⊢
  exact h.trans (congrArg Prod.snd (vals_indep _ _ _ 19))

end Fold

end Cert.Proof.Run

end
-- ==== Proof.Run.Launch.lean ====
/-
  The launch.

  The host operations around the region, the region's proof data, its body by `bodyRun`, and what every final state holds:
  the arguments as they were, the semaphores at zero, the result the reshaped indices.
-/
module

public import proofs.«01_k».proof.Proof.Run.Fold

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch

variable (m : (ℓ : Loc nD τ sig) → Buf (Elt F) ℓ) (ρ : Dev nD → PrngReg)

/-- The transposed weights as the region finds them. -/
abbrev XAof (c : Dev nD) : Buf (Elt F) (wM.view.loc (c : Thread nD τ)) := V m c main_call0_v0

/-! ## The chunks and the slots, as sets of elements -/

/-- The slots' semaphores are the kernel's own. -/
abbrev osem : Fin 3 → SemLoc sig := fun s => .dma (csm s).sem
/-- The kernel's own semaphores are none of the windows'. -/
theorem ownSemFacts : Pipeline.OwnSemFacts spec0 osem := by decide

/-- The elements of chunk `b`. -/
abbrev chunkSet (b : Fin 20) : Finset S100000x128.Idx := (Rect.unit (s := S100000x128) (chunkOff b) S5000x128.size (chunkOff_inb b)).set
/-- The elements of slot `s`. -/
abbrev slotSet (s : Fin 3) : Finset S3x5000x128.Idx := (Rect.unit (s := S3x5000x128) (slotOff s) S1x5000x128.size (slotOff_inb s)).set

omit [FloatOps F] in
/-- A chunk's view covers them. -/
theorem chunk_set (b : Fin 20) : (chunk b : Memref sig .tc .hbm _ _).view.set = chunkSet b := View.set_slice_whole _ _
omit [FloatOps F] in
/-- A slot's view covers them. -/
theorem rslot_set (s : Fin 3) : (rslot s : Memref sig .tc .vmem _ _).view.set = slotSet s := (View.set_reshape _ _).trans (View.set_slice_whole _ _)

/-- A row lies in the chunk its number says. -/
theorem mem_chunkSet (b : Fin 20) (y : S100000x128.Idx) : y ∈ chunkSet b ↔ (y 0).val / 5000 = b.val := by
  rw [Rect.mem_set_unit]
  have h1 : (y 1).val < 128 := (y 1).isLt
  constructor
  · intro H; have a0 : b.val * 5000 ≤ (y 0).val ∧ (y 0).val < b.val * 5000 + 5000 := H 0; omega
  · intro H i; fin_cases i
    · show b.val * 5000 ≤ (y 0).val ∧ (y 0).val < b.val * 5000 + 5000; omega
    · show 0 ≤ (y 1).val ∧ (y 1).val < 0 + 128; omega
/-- An element is in slot `s` when its first coordinate is `s`. -/
theorem mem_slotSet (s : Fin 3) (y : S3x5000x128.Idx) : y ∈ slotSet s ↔ (y 0).val = s.val := by
  rw [Rect.mem_set_unit]
  have h1 : (y 1).val < 5000 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 5000; omega
    · show 0 ≤ (y 2).val ∧ (y 2).val < 0 + 128; omega
/-- Two chunks share no element, -/
theorem chunkSet_disjoint : ∀ b b' : Fin 20, b ≠ b' → Disjoint (chunkSet b) (chunkSet b') := by
  intro b b' hne; rw [Finset.disjoint_left]; intro y hy hy'; rw [mem_chunkSet] at hy hy'; exact hne (Fin.ext (hy.symm.trans hy'))
/-- and together they are the array. -/
theorem chunkSet_cover : (Finset.univ : Finset (Fin 20)).biUnion chunkSet = Finset.univ := by
  ext y; simp only [Finset.mem_biUnion, Finset.mem_univ, true_and, iff_true]
  have h : (y 0).val < 100000 := (y 0).isLt
  exact ⟨⟨(y 0).val / 5000, by omega⟩, (mem_chunkSet _ _).2 rfl⟩
/-- Two slots share no element, -/
theorem slotSet_disjoint : ∀ s s' : Fin 3, s ≠ s' → Disjoint (slotSet s) (slotSet s') := by
  intro s s' hne; rw [Finset.disjoint_left]; intro y hy hy'; rw [mem_slotSet] at hy hy'; exact hne (Fin.ext (hy.symm.trans hy'))
/-- and together they are the buffer. -/
theorem slotSet_cover : (Finset.univ : Finset (Fin 3)).biUnion slotSet = Finset.univ := by
  ext y; simp only [Finset.mem_biUnion, Finset.mem_univ, true_and, iff_true]
  exact ⟨⟨(y 0).val, (y 0).isLt⟩, (mem_slotSet _ _).2 rfl⟩

omit [FloatOps F] in
/-- A product over three. -/
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are the twenty chunks at home; -/
theorem weights_eq (c : Dev nD) (XA : Buf (Elt F) (wM.view.loc (c : Thread nD τ))) :
    (((c : Thread nD τ).loc main_call0_v0) ↦{fullShare} XA : sProp 𝕄) = bigSep Finset.univ (homeP c XA) := by
  rw [Ring.pointsTo_blocks (ℓ := (c : Thread nD τ).loc main_call0_v0) chunkSet chunkSet_disjoint chunkSet_cover]
  exact bigSep_congr fun b _ => by rw [← chunk_set]; rfl
/-- the first three apart from the rest. -/
theorem homes_zero (c : Dev nD) (XA : Buf (Elt F) (wM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 20)) = insert 0 (insert 1 (insert 2 (Ring.homeSet (NB := 20) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl

omit [FloatOps F] in
/-- A slot held is its elements of the buffer held. -/
theorem slotP_eq (c : Dev nD) (s : Fin 3) (f) : slotP c s f = (((c : Thread nD τ).loc cc0_scratch0) ↦[slotSet s]{fullShare} f : sProp 𝕄) :=
  congrArg (fun S => (_ ↦[S]{fullShare} f : sProp 𝕄)) (rslot_set s)
/-- The slots' buffer whole is its three slots, -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ ∃ f, slotP c 2 f) : sProp 𝕄) := by
  iintro ⟨%f, H⟩
  ihave H3 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (bigSep_fin3 _))) $$ H
  icases H3 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
/-- and back. -/
theorem buf_join (c : Dev nD) :
    iprop((∃ f, slotP c 0 f) ∗ (∃ f, slotP c 1 f) ∗ ∃ f, slotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSet slotSet_disjoint slotSet_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

omit [FloatOps F] in
/-- The kernel's own semaphores at zero are the three slots'. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0; rw [bigSep_fin3]

omit [FloatOps F] in
/-- A buffer held through its whole view is the buffer held. -/
theorem maxM_eq (c : Dev nD) (f : Buf (Elt F) ((c : Thread nD τ).loc cc0_scratch1)) :
    heldP c maxM f = (((c : Thread nD τ).loc cc0_scratch1) ↦{fullShare} f : sProp 𝕄) :=
  congrArg (fun S => (_ ↦[S]{fullShare} f : sProp 𝕄)) (View.set_whole _)
omit [FloatOps F] in
/-- The same of the index buffer. -/
theorem idxM_eq (c : Dev nD) (f : Buf (Elt F) ((c : Thread nD τ).loc cc0_scratch2)) :
    heldP c idxM f = (((c : Thread nD τ).loc cc0_scratch2) ↦{fullShare} f : sProp 𝕄) :=
  congrArg (fun S => (_ ↦[S]{fullShare} f : sProp 𝕄)) (View.set_whole _)

/-! ## The region's proof data -/

/-- The operand the kernel reads by its own transfers. -/
abbrev HH : Finset (Ref sig .tc) := {main_call0_v0}
/-- What the region holds before and after its one point, beside the windows. -/
abbrev ΦR (c : Dev nD) : sProp 𝕄 := Pipeline.ΦD osem spec0 HH (fun c b => V m c b) c

/-- The result's block: the indices after the last trip. -/
def outAt (c : Dev nD) (t : Fin cfg0.N) : S8x1.Idx → Elt F .i32 :=
  outV c (XAof m c) (st0_0 t) (st0_1 t) ((st0_0 t).view.rep (iblk m c 0 t)) ((st0_1 t).view.rep (iblk m c 1 t))

/-- What each window holds before and after the one point, and what the region holds beside. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := ΦR m c
  q _ := fullShare
  owed _ := 0

/-- The input windows hold their blocks before the body, -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- and after it; the output window holds the indices. -/
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outAt m c t := by dsimp only [dats]

/-! ## The body at the point -/

/-- The body the pipeline calls is the kernel's. -/
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
/-- At a point it is the body at the current buffers. -/
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) :=
  (congrFun defs_tc _).trans rfl

set_option backward.isDefEq.respectTransparency.types false in
/-- The body does what the windows ask of it. -/
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2]
  rw [show (dats m 0 c).Φ t.castSucc = ΦR m c from rfl, show (dats m 0 c).Φ t.succ = ΦR m c from rfl]
  unfold Dat.owesAt Pipeline.owesWithin
  rw [show (dats m 0 c).owed t.castSucc = 0 from rfl, show (dats m 0 c).owed t.succ = 0 from rfl]
  unfold owns ΦR
  rw [Pipeline.ΦD_eq, scopedRest0_eq, ownSems0_eq, bigSep_singleton, weights_eq]
  iintro ⟨⟨⟨Hbuf, ⟨%fm0, HM⟩, ⟨%fi0, HI⟩⟩, Hp, ⟨Hc0, Hc1, Hc2⟩, Hw⟩, ⟨%W, -, HW⟩, ⟨%d0, %g0, %hg0, HX⟩, ⟨%d1, %g1, %hg1, HB⟩, ⟨%d2, %gO, -, HO⟩⟩
  ihave Hh3 := (entails_of_eq (homes_zero c (XAof m c))) $$ Hw
  icases Hh3 with ⟨Hg0, Hg1, Hg2, Hh⟩
  ihave Hs := (buf_split c) $$ Hbuf
  icases Hs with ⟨Hs0, Hs1, Hs2⟩
  ihave HX' := (pointsTo_rep_entails (c : Thread nD τ) (st0_0 t) g0 fullShare) $$ HX
  ihave HB' := (pointsTo_rep_entails (c : Thread nD τ) (st0_1 t) g1 fullShare) $$ HB
  rw [hg0, hg1]
  sl_rw [prog_eq t]
  ihave HM' := (entails_of_eq (maxM_eq c fm0).symm) $$ HM
  ihave HI' := (entails_of_eq (idxM_eq c fi0).symm) $$ HI
  iapply (bodyRun c (XAof m c) (st0_0 t) (hstage0_0 0) (st0_1 t) (hstage0_1 0) (st0_2 t) (hstage0_2 0)
    ((st0_0 t).view.rep (iblk m c 0 t)) ((st0_1 t).view.rep (iblk m c 1 t)) gO fm0 fi0 W)
  isplitl [HX' HB' HO HM' HI' Hg0 Hg1 Hg2 Hh Hs0 Hs1 Hs2 Hc0 Hc1 Hc2 HW]
  · isplitl [HX']; · iexact HX'
    isplitl [HB']; · iexact HB'
    isplitl [HO]; · iexact HO
    isplitl [HM']; · iexact HM'
    isplitl [HI']; · iexact HI'
    isplitl [Hg0]; · iexact Hg0
    isplitl [Hg1]; · iexact Hg1
    isplitl [Hg2]; · iexact Hg2
    isplitl [Hh]; · iexact Hh
    isplitl [Hs0]; · iexact Hs0
    isplitl [Hs1]; · iexact Hs1
    isplitl [Hs2]; · iexact Hs2
    isplitl [Hc0]; · iexact Hc0
    isplitl [Hc1]; · iexact Hc1
    isplitl [Hc2]; · iexact Hc2
    iexact HW
  · iintro ⟨HX, HB, HO, ⟨%fm, HM⟩, ⟨%fi, HI⟩, Hh, Hs0, Hs1, Hs2, Hc0, Hc1, Hc2, ⟨%W', HW⟩⟩
    isplitl [HM HI Hp Hh Hs0 Hs1 Hs2 Hc0 Hc1 Hc2]
    · isplitl [HM HI Hs0 Hs1 Hs2]
      · isplitl [Hs0 Hs1 Hs2]
        · iapply (buf_join c)
          isplitl [Hs0]; · iexact Hs0
          isplitl [Hs1]; · iexact Hs1
          iexact Hs2
        isplitl [HM]
        · iexists fm; iapply (entails_of_eq (maxM_eq c fm)); iexact HM
        iexists fi; iapply (entails_of_eq (idxM_eq c fi)); iexact HI
      isplitl [Hp]; · iexact Hp
      isplitl [Hc0 Hc1 Hc2]
      · isplitl [Hc0]; · iexact Hc0
        isplitl [Hc1]; · iexact Hc1
        iexact Hc2
      iexact Hh
    isplitl [HW]
    · iexists W'; isplitr; · ipureintro; exact fun _ _ => Or.inl trivial
      iexact HW
    isplitl [HX]
    · iexists _; isplitr; · ipureintro; exact View.read_rep _ _
      iexact HX
    isplitl [HB]
    · iexists _; isplitr; · ipureintro; exact View.read_rep _ _
      iexact HB
    iexists outOf c (XAof m c) (st0_0 t) (hstage0_0 0) (st0_1 t) (hstage0_1 0) (st0_2 t) (hstage0_2 0)
      ((st0_0 t).view.rep (iblk m c 0 t)) ((st0_1 t).view.rep (iblk m c 1 t)) fm0 fi0 gO
    isplitr
    · ipureintro
      exact read_outOf c (XAof m c) (st0_0 t) (hstage0_0 0) (st0_1 t) (hstage0_1 0) (st0_2 t) (hstage0_2 0) _ _ fm0 fi0 gO
    iexact HO

/-! ## The run -/

/-- The host line after the region touches neither the weights' array nor anything the region holds. -/
theorem sfx_subBut : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut Pipeline.Prefetch.none spec0 HH op ((List.forall_iff_forall_mem.mp hostOps1_sub) op hop)
    (fun k => k.elim0) ?_
  simp only [hostOps1, List.mem_cons, List.mem_nil_iff, or_false] at hop
  rcases hop with rfl
  intro b hb
  rw [Finset.mem_singleton] at hb
  subst hb
  rw [StableHlo.reshape_bufs]
  simp only [Finset.mem_insert, Finset.mem_singleton, not_or]
  exact ⟨StableHlo.devRef_ne_of_ne (by decide), StableHlo.devRef_ne_of_ne (by decide)⟩

set_option maxHeartbeats 800000 in
/-- `@main` is the host lines, the region, the host line after it. -/
theorem main_around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every final state holds of the buffers: each window's array at its last contents, every other buffer as the host line
    after the region leaves it. -/
abbrev PostR := Pipeline.FramePost (Val := Elt F) cfgs (dats m) 0 (Pipeline.afterTail₀ cfgs (dats m) 0 (V0 m) [hostOps1])

set_option backward.isDefEq.respectTransparency.types false in
/-- From any memory with zero counters, for any float values: every weakly fair execution of `@main` terminates, with the buffers
    as `PostR` says and every semaphore counter at zero. -/
theorem run_main : θ_run defs (onTc (τ := τ) (main (F := F))) (s₀ m ρ) (fun r => PostR m r ∧ r.2.sem = fun _ => 0) :=
  Pipeline.θ_run_frame_dma_around cfgs (dats m) 0 launch0 osem defs₀ 𝒱₀ ownSemFacts HH (by decide) m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := main_around m) (hA := fun _ _ => rfl) (hin := fun _ => .rfl) (hout := fun _ => .rfl)
    (Q' := fun r => PostR m r ∧ r.2.sem = fun _ => 0) (hQ' := fun _ h => h)

/-- The host line after the region writes its result alone: an argument outside the windows ends as the region found it. -/
theorem tail_main_arg1 (c : Dev nD) : Pipeline.afterTail₀ cfgs (dats m) 0 (V0 m) [hostOps1] c main_arg1 = V m c main_arg1 := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
/-- The same of the third argument. -/
theorem tail_main_arg2 (c : Dev nD) : Pipeline.afterTail₀ cfgs (dats m) 0 (V0 m) [hostOps1] c main_arg2 = V m c main_arg2 := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]

/-- So the arguments end as launched. -/
theorem args_of_post (r : PUnit × MemSt nD τ sig (Elt F)) (h : PostR m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans (V_main_arg0 m c)),
    ((h c).2 main_arg1 (Pipeline.mem_restRefs_of main_arg1 (by decide) (by decide))).trans ((tail_main_arg1 m c).trans (V_main_arg1 m c)),
    ((h c).2 main_arg2 (Pipeline.mem_restRefs_of main_arg2 (by decide) (by decide))).trans ((tail_main_arg2 m c).trans (V_main_arg2 m c))⟩

end Launch

end Cert.Proof.Run

end
-- ==== Proof.Run.Same.lean ====
/-
  The kernel as printed for the machine's floats and the kernel as read at the reals are one text.

  So one run of that text, at any floats, gives the claims about both.
-/
module
public import proofs.«01_k».proof.Defs
public import proofs.«01_k».proof.Proof.Run.Launch
public import proofs.«01_k».proof.Proof.Gen.Kernel.Frame
@[expose] public section
noncomputable section
namespace Cert.Proof.Same
open Idealize.ShloMosaic Idealize.SL.Sem
variable {F : FTy → Type} [FloatOps F]
variable [hK : Cert.Kernel.Facts] [hI : Cert.KernelIdeal.Facts]

/-- The two kernel functions are one function, -/
theorem body_eq : @Cert.Kernel.cc0__sample_kernel F _ hK = @Cert.KernelIdeal.cc0__sample_kernel F _ hI := rfl
/-- so the two body tables are one, -/
theorem bodies_eq : Cert.Kernel.defs₀ (F := F) = Cert.KernelIdeal.defs₀ (F := F) := by
  funext p l a
  cases p with
  | tc => match l, a with
    | ⟨0, _⟩, (t, s) => rfl
  | scScalar _ => rfl
  | scVector _ _ => rfl
/-- the two label tables, -/
theorem defs_eq : Cert.Kernel.defs (F := F) = Cert.KernelIdeal.defs (F := F) :=
  congrArg (Pipeline.defs Cert.KernelIdeal.pcfgs) bodies_eq
/-- and the two host programs. -/
theorem main_eq : Cert.Kernel.main (F := F) = Cert.KernelIdeal.main (F := F) := rfl

end Cert.Proof.Same

namespace Cert.Proof.Same
open Idealize.ShloMosaic Idealize.SL.Sem

/-- The kernel at the machine's floats terminates, its arguments unchanged and every semaphore counter at zero. -/
theorem frame_Kernel : Cert.quiescent_Kernel (hKernel := Cert.Kernel.Gen.facts) := fun m g _ => by
  have h := (θ_run _ _ _).mono (fun r hh => (⟨fun c => Cert.Proof.Run.args_of_post m r hh.1 c, hh.2⟩ : _ ∧ _))
    (Cert.Proof.Run.run_main (F := Bits) m g)
  rw [defs_eq (hK := Cert.Kernel.Gen.facts) (hI := Cert.KernelIdeal.Gen.facts), main_eq (hK := Cert.Kernel.Gen.facts) (hI := Cert.KernelIdeal.Gen.facts)]
  exact h

/-- The kernel at the reals terminates, its arguments unchanged and every semaphore counter at zero. -/
theorem frame_KernelIdeal : Cert.quiescent_KernelIdeal (hKernelIdeal := Cert.KernelIdeal.Gen.facts) := fun m g _ =>
  (θ_run _ _ _).mono (fun r hh => (⟨fun c => Cert.Proof.Run.args_of_post m r hh.1 c, hh.2⟩ : _ ∧ _))
    (Cert.Proof.Run.run_main (F := Ideal) m g)

end Cert.Proof.Same
end
-- ==== Proof.RefFrame.lean ====
module

public import proofs.«01_k».proof.Defs
public import proofs.«01_k».proof.Proof.Gen.ReferenceIdeal
public import Idealize.ShloMosaic.Lib.Claim

@[expose] public section

noncomputable section

namespace Cert.Proof.Reference

open Idealize.ShloMosaic Idealize.SL.Sem

/-- The reference ends with its arguments as launched and its semaphores at zero. -/
theorem frame [hR : Cert.ReferenceIdeal.Facts] : Cert.quiescent_ReferenceIdeal := by
  intro m g hpre
  refine (θ_run Cert.ReferenceIdeal.defs _ _).mono (fun r h => ⟨h, Idealize.ShloMosaic.sem_eq_zero_of_no_sems (by decide) r.2⟩) ?_
  hlo_run

end Cert.Proof.Reference

end
-- ==== Proof.Value.Noise.lean ====
/-
  The noise both programs add to the logits, of one 32-bit counter.

  The random bits are threefry's: a block cipher of twenty rounds on a pair of words, under a key. A bit word becomes a
  uniform value, and that the inner logarithm of a Gumbel variate.
-/
module

public import Idealize.ShloMosaic.Lib.Pointwise
public import Idealize.ShloMosaic.PureOps.Ideal

@[expose] public section

noncomputable section

namespace Cert.Proof.Noise

open Idealize.ShloMosaic

/-- A word with its bits moved `d` to the left and those that leave brought back `e` to the right (`d + e = 32`). -/
def rot (d e b : BitVec 32) : BitVec 32 := (b <<< d) ||| (b >>> e)

/-- One round: the sum of the two words, and the second word rotated against it. -/
def next (d e : BitVec 32) (s : BitVec 32 × BitVec 32) : BitVec 32 × BitVec 32 := (s.1 + s.2, (s.1 + s.2) ^^^ rot d e s.2)

/-- A key's injection after four rounds. -/
def inject (a b n : BitVec 32) (s : BitVec 32 × BitVec 32) : BitVec 32 × BitVec 32 := (s.1 + a, s.2 + b + n)

/-- The odd groups of four rounds: their first three. -/
def odd3 (s : BitVec 32 × BitVec 32) : BitVec 32 × BitVec 32 := next 26#32 6#32 (next 15#32 17#32 (next 13#32 19#32 s))
/-- All four. -/
def odd (s : BitVec 32 × BitVec 32) : BitVec 32 × BitVec 32 := next 6#32 26#32 (odd3 s)
/-- The even groups of four rounds. -/
def even (s : BitVec 32 × BitVec 32) : BitVec 32 × BitVec 32 :=
  next 24#32 8#32 (next 16#32 16#32 (next 29#32 3#32 (next 17#32 15#32 s)))

/-- The cipher under the key words `k0`, `k1` and the third word `k2` made of them. -/
def cipher (k0 k1 k2 : BitVec 32) (x : BitVec 32 × BitVec 32) : BitVec 32 × BitVec 32 :=
  inject k2 k0 5#32 (odd (inject k1 k2 4#32 (even (inject k0 k1 3#32 (odd (inject k2 k0 2#32 (even
    (inject k1 k2 1#32 (odd (x.1 + k0, x.2 + k1))))))))))

/-- The bits of a counter. -/
def bits (k0 k1 k2 : BitVec 32) (x : BitVec 32 × BitVec 32) : BitVec 32 := (cipher k0 k1 k2 x).1 ^^^ (cipher k0 k1 k2 x).2

/-- The uniform value of a bit word, kept above zero. -/
def uniform (b : BitVec 32) : EReal :=
  max (Ideal.ofBits .f32 0x00800000#32)
    (Ideal.ofBits .f32 ((b >>> 9#32) ||| 1065353216#32) - Ideal.ofBits .f32 0x3F800000#32 + Ideal.ofBits .f32 0x00800000#32)

/-- The inner logarithm of the Gumbel variate of a bit word. -/
def inner (b : BitVec 32) : EReal := Ideal.log (-(Ideal.log (uniform b)))

/-- The keys of seed one. -/
abbrev key2 : BitVec 32 := 466688987#32

/-- The Gumbel variate of the counter `n`. -/
def gumbel (n : BitVec 32) : EReal := -(inner (bits 0#32 1#32 key2 (0#32, n)))

end Cert.Proof.Noise

end
-- ==== Proof.Value.KernelNoise.lean ====
/-
  The noise a trip of the kernel's loop computes, lane by lane.
-/
module

public import proofs.«01_k».proof.Proof.Run.Fold
public import proofs.«01_k».proof.Proof.Value.Noise

@[expose] public section

noncomputable section

namespace Cert.Proof.Noise

open Cert.KernelIdeal Cert.KernelIdeal.Gen
open Idealize.ShloMosaic

variable (v45 : BitVec 32) (i : S8x5000.Idx)

/-- The second part's lanes: the first group of rounds, a key, two rounds of the second group. -/
theorem part2_noise (a b v51 v53 : IVec S8x5000 32) (h1 : v51 i = a i + b i) (h2 : v53 i = b i <<< 13#32) :
    (k0_pay20 v45 b v51 v53 19#32 i, k0_pay21 v45 b v51 v53 19#32 i)
      = next 29#32 3#32 (next 17#32 15#32 (inject 1#32 v45 1#32 (odd (a i, b i)))) := by
  have e1 : (v51 i, k0_pay11 b v51 v53 19#32 i) = next 13#32 19#32 (a i, b i) := by
    unfold next; rw [← h1]; unfold rot; rw [← h2]; rfl
  rw [odd, odd3, ← e1]
  rfl

/-- The third part's: the second group's last two rounds, a key, the third group. -/
theorem part3_noise (v98 v99 : IVec S8x5000 32) (a : BitVec 32) (h : v99 i = a + v98 i) :
    (k0_pay33 v45 v98 v99 k0_pay23 i, k0_pay34 v45 v98 v99 k0_pay23 i)
      = odd (inject v45 0#32 2#32 (next 24#32 8#32 (next 16#32 16#32 (a, v98 i)))) := by
  have e1 : (v99 i, k0_pay24 v98 v99 k0_pay23 i) = next 16#32 16#32 (a, v98 i) := by
    unfold next; rw [← h]; rfl
  rw [← e1]
  rfl

/-- The fourth part's: a key, the fourth group, a key; then the words as the last group starts. -/
theorem part4_noise (v140 v146 : IVec S8x5000 32) :
    ∃ s, s = inject 1#32 v45 4#32 (even (inject 0#32 1#32 3#32 (v140 i, v146 i)))
      ∧ k0_pay44 v45 v140 v146 0#32 i = s.1 + s.2 ∧ k0_pay45 v45 v140 v146 0#32 i = rot 13#32 19#32 s.2 :=
  ⟨(_, k0_pay43 v45 v140 v146 0#32 i), rfl, rfl, rfl⟩

/-- The fifth part's: the last group and key, and from the bits the inner logarithm. -/
theorem part5_noise (v187 v192 : IVec S8x5000 32) (s : BitVec 32 × BitVec 32) (h1 : v187 i = s.1 + s.2)
    (h2 : v192 i = rot 13#32 19#32 s.2) :
    k0_pay46 (F := Ideal) v45 v187 v192 i
      = inner ((inject v45 0#32 5#32 (odd s)).1 ^^^ (inject v45 0#32 5#32 (odd s)).2) := by
  have e1 : next 13#32 19#32 s = (v187 i, v187 i ^^^ v192 i) := by rw [h1, h2]; rfl
  rw [odd, odd3, e1]
  unfold inner uniform
  rw [← zero_sub, ← Ideal.ofBits_zero_f32]
  rfl

/-- The counter of lane `i` at trip `k`: the row's number times the row's length, and the column's number. -/
def counter (k : Fin k0_t1_loop.trips) (i : S8x5000.Idx) : BitVec 32 :=
  BitVec.ofNat 32 ((i 0).val * 100000 + (k.val * 5000 + (i 1).val))

/-- The word a trip starts its rounds from, at a lane: the counter and the second key. -/
theorem word_counter (k : Fin k0_t1_loop.trips) : k0_pay8 0#32 1#32 k i = counter k i + 1#32 := by
  have hk : k.val < 20 := k.isLt
  have hw : Scf.iv 0#32 1#32 k = BitVec.ofNat 32 k.val := by
    simp [Scf.iv]
  have h0 : (iota .tc S8x5000 32 [0] iota_S8x5000_d0_w32 i : BitVec 32) = BitVec.ofNat 32 (i 0).val := by
    simp [iota]
  have h1 : (iota .tc S8x5000 32 [1] iota_S8x5000_d1_w32 i : BitVec 32) = BitVec.ofNat 32 (i 1).val := by
    simp [iota]
  show (iota .tc S8x5000 32 [0] iota_S8x5000_d0_w32 i) * 100000#32
    + (Scf.iv 0#32 1#32 k * 5000#32 + iota .tc S8x5000 32 [1] iota_S8x5000_d1_w32 i) + 1#32 = _
  rw [h0, h1, hw, counter]
  simp only [BitVec.ofNat_add, BitVec.ofNat_mul]

/-- The inner noise of a trip, at a lane, is the noise of that lane's counter. -/
theorem inner_eq (k : Fin k0_t1_loop.trips) :
    Run.inner (F := Ideal) k i = inner (bits 0#32 1#32 key2 (0#32, counter k i)) := by
  have p2 := part2_noise key2 i (fun _ => 0#32 + 0#32) (k0_pay8 0#32 1#32 k) (k0_pay9 0#32 1#32 k) (k0_pay10 0#32 1#32 k) rfl rfl
  have p3 := part3_noise key2 i (Run.tripRun.sl.v98 k) (Run.tripRun.sl.v99 k)
    (k0_pay20 key2 (k0_pay8 0#32 1#32 k) (k0_pay9 0#32 1#32 k) (k0_pay10 0#32 1#32 k) 19#32 i) rfl
  obtain ⟨s, hs, e1, e2⟩ := part4_noise key2 i (Run.tripRun.sl.v140 k) (Run.tripRun.sl.v146 k)
  have p5 := part5_noise key2 i (Run.tripRun.sl.v187 k) (Run.tripRun.sl.v192 k) s e1 e2
  have e3 : (Run.tripRun.sl.v140 k i, Run.tripRun.sl.v146 k i) = _ := p3
  have e4 : (k0_pay20 key2 (k0_pay8 0#32 1#32 k) (k0_pay9 0#32 1#32 k) (k0_pay10 0#32 1#32 k) 19#32 i, Run.tripRun.sl.v98 k i) = _ := p2
  rw [e4, word_counter] at e3
  rw [e3] at hs
  refine p5.trans ?_
  rw [hs]
  rfl

end Cert.Proof.Noise

end
-- ==== Proof.Value.Line.lean ====
/-
  A piece of the reference's straight line: its operations, and what they make of the contents they start from.
-/
module

public import proofs.«01_k».proof.Defs
public import proofs.«01_k».proof.Proof.Gen.ReferenceIdeal
public import Idealize.ShloMosaic.Lib.Claim

@[expose] public section

noncomputable section

namespace Cert.Proof.Reference

open Idealize.ShloMosaic Idealize.SL.Sem Cert.ReferenceIdeal

/-- The contents of one device's buffers. -/
abbrev Vals : Type := Valuation τ sig (Elt Ideal)

/-- A program of the reference's device. -/
abbrev Piece : Type 1 := Prog (TpuEff nD τ sig (Elt Ideal) (Pipeline.Sig Λ₀ (Fin 0) fun p => (pcfgs (F := Ideal) p).Adm) .tc) PUnit

/-- `p` is a straight line of operations that takes contents `V` to contents `W` with `R V W`. -/
def Line (p : Piece) (R : Vals → Vals → Prop) : Prop :=
  ∃ ops : List (HloOp τ sig (Elt Ideal)), StableHlo.IsSeq p ops ∧ (ops.Forall fun op => op.bufs ⊆ StableHlo.tcRefs τ sig)
    ∧ (∀ op ∈ ops, op.fresh = ∅) ∧ ∀ V, R V (StableHlo.after ops V)

/-- The contents after two lists of operations, one after the other. -/
theorem after_app (o o' : List (HloOp τ sig (Elt Ideal))) (V : Vals) :
    StableHlo.after (o ++ o') V = StableHlo.after o' (StableHlo.after o V) := by
  induction o generalizing V with
  | nil => rfl
  | cons op o ih => exact ih _

/-- One piece after another. -/
theorem Line.bind {p q : Piece} {R S : Vals → Vals → Prop} (hp : Line p R) (hq : Line q S) :
    Line (p >>= fun _ => q) (fun V W => ∃ U, R V U ∧ S U W) := by
  obtain ⟨o, h1, h2, h3, h4⟩ := hp
  obtain ⟨o', k1, k2, k3, k4⟩ := hq
  refine ⟨o ++ o', ?_, ?_, ?_, fun V => ⟨StableHlo.after o V, h4 V, ?_⟩⟩
  · unfold StableHlo.IsSeq at *; rw [h1, k1, StableHlo.seq_append]
  · exact List.forall_append.mpr ⟨h2, k2⟩
  · intro op h
    rcases List.mem_append.mp h with h | h
    · exact h3 op h
    · exact k3 op h
  · rw [after_app]; exact k4 _

/-- What a line is known to make may be said more weakly. -/
theorem Line.mono {p : Piece} {R S : Vals → Vals → Prop} (hp : Line p R) (h : ∀ V W, R V W → S V W) : Line p S := by
  obtain ⟨o, h1, h2, h3, h4⟩ := hp
  exact ⟨o, h1, h2, h3, fun V => h _ _ (h4 V)⟩

/-- A line from its operations. -/
theorem Line.of {p : Piece} {R : Vals → Vals → Prop} {ops : List (HloOp τ sig (Elt Ideal))} (h1 : StableHlo.IsSeq p ops)
    (h2 : ops.Forall fun op => op.bufs ⊆ StableHlo.tcRefs τ sig) (h3 : ∀ op ∈ ops, op.fresh = ∅)
    (h4 : ∀ V, R V (StableHlo.after ops V)) : Line p R := ⟨ops, h1, h2, h3, h4⟩

/-- `p` is the operations `ops`, then `k`. -/
def Then (p : Piece) (ops : List (HloOp τ sig (Elt Ideal))) (k : Piece) : Prop := p = StableHlo.seqK ops k

/-- No operations lead from a piece to itself. -/
theorem Then.nil {k : Piece} : Then k [] k := rfl

/-- One more operation in front. -/
theorem Then.cons {op : HloOp τ sig (Elt Ideal)} {p k : Piece} {ops : List (HloOp τ sig (Elt Ideal))} (h : Then p ops k) :
    Then ((hlo rfl op fun _ => .ret (⟨⟩ : PUnit)) >>= fun _ => p) (op :: ops) k := by
  unfold Then at h ⊢; rw [h]; rfl

/-- Operations, then a line. -/
theorem Line.step {p k : Piece} {R S : Vals → Vals → Prop} {ops : List (HloOp τ sig (Elt Ideal))} (h1 : Then p ops k)
    (h2 : ops.Forall fun op => op.bufs ⊆ StableHlo.tcRefs τ sig) (h3 : ∀ op ∈ ops, op.fresh = ∅)
    (h4 : ∀ V, R V (StableHlo.after ops V)) (hk : Line k S) : Line p (fun V W => ∃ U, R V U ∧ S U W) := by
  unfold Then at h1
  rw [h1, ← StableHlo.seq_bind_seqK]
  exact Line.bind (Line.of rfl h2 h3 h4) hk

end Cert.Proof.Reference

end
-- ==== Proof.Value.RefCipher.lean ====
/-
  The reference's bits: the cipher's operations, in the four pieces the program is printed in.
-/
module

public import proofs.«01_k».proof.Proof.Value.Line
public import proofs.«01_k».proof.Proof.Value.Noise

@[expose] public section

noncomputable section

namespace Cert.Proof.Reference

open Idealize.ShloMosaic Idealize.SL.Sem Cert.ReferenceIdeal
open Cert.Proof.Noise

/-- What a typed reference's buffer holds, at the reference's type. -/
def at' {T : BufTy} (t : StableHlo.TRef sig T) (V : Vals) : T.Contents (Elt Ideal) := t.ofBuf (V (Proc.devRef .tc t.ref))

/-- A host shift by less than the width is a shift of the word. -/
theorem shl_lit (x d : BitVec 32) (hd : d.toNat < 32) : IntOp.shli .host x d = x <<< d := if_pos hd
theorem shr_lit (x d : BitVec 32) (hd : d.toNat < 32) : IntOp.shrui .host x d = x >>> d := if_pos hd

/-! The operations at an element. -/

theorem shl_ap (x y : IVec S8x100000 32) (i) : Host.shli x y i = IntOp.shli .host (x i) (y i) := rfl
theorem shr_ap (x y : IVec S8x100000 32) (i) : Host.shrui x y i = IntOp.shrui .host (x i) (y i) := rfl
theorem add_ap (x y : IVec S8x100000 32) (i) : addi x y i = x i + y i := rfl
theorem or_ap (x y : IVec S8x100000 32) (i) : ori x y i = x i ||| y i := rfl
theorem xor_ap (x y : IVec S8x100000 32) (i) : xori x y i = x i ^^^ y i := rfl
/-- The third key, from the other two. -/
theorem xor_const (a b : BitVec 32) : xori (constantI S_ 32 a) (constantI S_ 32 b) = constantI S_ 32 (a ^^^ b) := rfl
theorem key2_eq : 0#32 ^^^ 1#32 ^^^ 466688986#32 = 466688987#32 := by decide

/-- What every piece of the cipher finds and leaves: the two key words; and it leaves the logits as they are. -/
def Kept (V W : Vals) : Prop :=
  at' (.of main_v12) W = at' (.of main_v12) V ∧ at' (.of main_v14) W = at' (.of main_v14) V ∧ at' (.of main_v3) W = at' (.of main_v3) V

/-- The key words, as buffers hold them. -/
def Keys (V : Vals) : Prop :=
  at' (.of main_v12) V = constantI S_ 32 0#32 ∧ at' (.of main_v14) V = constantI S_ 32 1#32

/-- The third key word, once it is computed. -/
def Key2 (V : Vals) : Prop := at' main_call0.v1 V = constantI S_ 32 key2

/-- The first piece: the first group of rounds, a key, the second group's first round. -/
theorem part0 : Line (fn_threefry2x32.body_part0 (.of main_v12) (.of main_v14) (.of main_v25) (.of main_v24) main_call0)
    (fun V W => Keys V → ∀ hi lo : IVec S8x100000 32, at' (.of main_v25) V = hi → at' (.of main_v24) V = lo →
      Kept V W ∧ Key2 W ∧ ∀ i : S8x100000.Idx, at' main_call0.v47 W i = at' main_call0.v40 W i + at' main_call0.v46 W i
        ∧ (at' main_call0.v40 W i, at' main_call0.v46 W i) = next 17#32 15#32 (inject 1#32 key2 1#32 (odd (hi i + 0#32, lo i + 1#32)))) := by
  apply Line.of
  case h1 => unfold fn_threefry2x32.body_part0; hlo_seq
  case h2 => decide
  case h3 => intro _ h; (repeat (cases h with | head => rfl | tail _ h => ?_)); exact nomatch h
  case h4 =>
    intro V ⟨h0, h1⟩ hi lo h2 h3
    unfold Kept Key2 at' at *
    refine ⟨⟨?_, ?_, ?_⟩, ?_, fun i => ⟨?_, ?_⟩⟩
    all_goals after_results_simp
    all_goals simp only [StableHlo.TRef.ofBuf_toBuf, h0, h1, h2, h3, xor_const, key2_eq]
    all_goals try simp (decide := true) only [broadcastInDim, constantI, shl_ap, shr_ap, shl_lit, shr_lit, add_ap, or_ap,
      xor_ap, next, inject, odd, odd3, even, rot, key2, h0, h1, h2, h3]

/-- The second: the rest of the second group, a key, the third group's first three rounds. -/
theorem part1 : Line (fn_threefry2x32.body_part1 (.of main_v12) (.of main_v14) (.of main_v25) (.of main_v24) main_call0)
    (fun V W => Keys V → Key2 V → ∀ a b c : IVec S8x100000 32, at' main_call0.v46 V = b → at' main_call0.v47 V = c →
      Kept V W ∧ Key2 W ∧ ∀ i : S8x100000.Idx, c i = a i + b i →
        (at' main_call0.v88 W i, at' main_call0.v94 W i)
          = odd3 (inject key2 0#32 2#32 (next 24#32 8#32 (next 16#32 16#32 (next 29#32 3#32 (a i, b i)))))) := by
  apply Line.of
  case h1 => unfold fn_threefry2x32.body_part1; hlo_seq
  case h2 => decide
  case h3 => intro _ h; (repeat (cases h with | head => rfl | tail _ h => ?_)); exact nomatch h
  case h4 =>
    intro V ⟨h0, h1⟩ hk a b c h2 h3
    unfold Kept Key2 at' at *
    refine ⟨⟨?_, ?_, ?_⟩, ?_, fun i hc => ?_⟩
    all_goals after_results_simp
    all_goals simp only [StableHlo.TRef.ofBuf_toBuf, h0, h1, hk, h2, h3, xor_const, key2_eq]
    all_goals try simp (decide := true) only [broadcastInDim, constantI, shl_ap, shr_ap, shl_lit, shr_lit, add_ap, or_ap,
      xor_ap, next, inject, odd, odd3, even, rot, key2, h0, h1, hk, h2, h3, *]

/-- The third: the third group's last round, a key, the fourth group, a key. -/
theorem part2 : Line (fn_threefry2x32.body_part2 (.of main_v12) (.of main_v14) (.of main_v25) (.of main_v24) main_call0)
    (fun V W => Keys V → Key2 V → ∀ a b : IVec S8x100000 32, at' main_call0.v88 V = a → at' main_call0.v94 V = b →
      Kept V W ∧ Key2 W ∧ ∀ i : S8x100000.Idx, at' main_call0.v142 W i = at' main_call0.v137 W i + at' main_call0.v141 W i
        ∧ (at' main_call0.v137 W i, at' main_call0.v141 W i) = inject 1#32 key2 4#32 (even (inject 0#32 1#32 3#32 (next 6#32 26#32 (a i, b i))))) := by
  apply Line.of
  case h1 => unfold fn_threefry2x32.body_part2; hlo_seq
  case h2 => decide
  case h3 => intro _ h; (repeat (cases h with | head => rfl | tail _ h => ?_)); exact nomatch h
  case h4 =>
    intro V ⟨h0, h1⟩ hk a b h2 h3
    unfold Kept Key2 at' at *
    refine ⟨⟨?_, ?_, ?_⟩, ?_, fun i => ⟨?_, ?_⟩⟩
    all_goals after_results_simp
    all_goals simp only [StableHlo.TRef.ofBuf_toBuf, h0, h1, hk, h2, h3, xor_const, key2_eq]
    all_goals try simp (decide := true) only [broadcastInDim, constantI, shl_ap, shr_ap, shl_lit, shr_lit, add_ap, or_ap,
      xor_ap, next, inject, odd, odd3, even, rot, key2, h0, h1, hk, h2, h3]

/-- The fourth: the fifth group and the last key. -/
theorem part3 : Line (fn_threefry2x32.body_part3 (.of main_v12) (.of main_v14) (.of main_v25) (.of main_v24) main_call0)
    (fun V W => Keys V → Key2 V → ∀ a b c : IVec S8x100000 32, at' main_call0.v141 V = b → at' main_call0.v142 V = c →
      Kept V W ∧ ∀ i : S8x100000.Idx, c i = a i + b i →
        (at' main_call0.v171 W i, at' main_call0.v175 W i) = inject key2 0#32 5#32 (odd (a i, b i))) := by
  apply Line.of
  case h1 => unfold fn_threefry2x32.body_part3; hlo_seq
  case h2 => decide
  case h3 => intro _ h; (repeat (cases h with | head => rfl | tail _ h => ?_)); exact nomatch h
  case h4 =>
    intro V ⟨h0, h1⟩ hk a b c h2 h3
    unfold Kept Key2 at' at *
    refine ⟨⟨?_, ?_, ?_⟩, fun i hc => ?_⟩
    all_goals after_results_simp
    all_goals simp only [StableHlo.TRef.ofBuf_toBuf, h0, h1, hk, h2, h3, xor_const, key2_eq]
    all_goals try simp (decide := true) only [broadcastInDim, constantI, shl_ap, shr_ap, shl_lit, shr_lit, add_ap, or_ap,
      xor_ap, next, inject, odd, odd3, even, rot, key2, h0, h1, hk, h2, h3, *]

end Cert.Proof.Reference

end
-- ==== Proof.Value.RefRun.lean ====
/-
  The reference's run: the row-wise arg-max of the logits with each entry's Gumbel variate added.
-/
module

public import proofs.«01_k».proof.Proof.Value.RefCipher
public import Idealize.ShloMosaic.Lib.IdealHost

@[expose] public section

noncomputable section

namespace Cert.Proof.Reference

open Idealize.ShloMosaic Idealize.SL.Sem Cert.ReferenceIdeal Cert.ReferenceIdeal.Facts₀ Cert.ReferenceIdeal.Facts
open Cert.Proof.Noise

/-- The entry's number in row-major order. -/
def counter (i : S8x100000.Idx) : BitVec 32 := BitVec.ofNat 32 ((i 0).val * 100000 + (i 1).val)

/-- The logits: the product, and the bias added to every row. -/
def logits (x : FVec Ideal S8x128 .f32) (w : FVec Ideal S128x100000 .f32) (d : FVec Ideal S100000 .f32) : FVec Ideal S8x100000 .f32 :=
  addf (Host.dotGeneral dot_S8x128_S128x100000_S8x100000_1_0_0_1_n_n none x w)
    (broadcastInDim S8x100000 ![0, 1] bcast_S1x100000_S8x100000_0_1 (broadcastInDim S1x100000 ![1] bcast_S100000_S1x100000_1 d))

/-- The reference's greatest value along a row, and its index. -/
def argPair (s : FVec Ideal S8x100000 .f32) (j : S8.Idx) : Ideal .f32 × BitVec 32 :=
  Host.argReduce (reducer_argmax_f32_i32 (F := Ideal)) s (iotaInDim S8x100000 32 1) (constant S_ .f32 0xFF800000#32) (constantI S_ 32 0#32)
    reducesTo_S8x100000_S8_d1 h_S_ j

/-- The reference's arg-max along the rows. -/
def argmax (s : FVec Ideal S8x100000 .f32) : IVec S8 32 := fun j => (argPair s j).2

/-- What the operations before the cipher leave: its keys, its counters' two words, and the logits. -/
def Head (V W : Vals) : Prop :=
  Keys W ∧ at' (.of main_v25) W = (fun _ => 0#32 : IVec S8x100000 32) ∧ at' (.of main_v24) W = (fun i => counter i : IVec S8x100000 32)
    ∧ at' (.of main_v3) W = logits (at' (.of main_arg0) V) (at' (.of main_arg1) V) (at' (.of main_arg2) V)

/-- What the cipher leaves. -/
def Cipher (V W : Vals) : Prop :=
  Keys V → at' (.of main_v25) V = (fun _ => 0#32 : IVec S8x100000 32) → at' (.of main_v24) V = (fun i => counter i : IVec S8x100000 32) →
    at' (.of main_v3) W = at' (.of main_v3) V
      ∧ ∀ i : S8x100000.Idx, (at' main_call0.v171 W i, at' main_call0.v175 W i) = cipher 0#32 1#32 key2 (0#32, counter i)

/-- What the operations after it leave: the arg-max of the logits and the bits' variates. -/
def Tail (V W : Vals) : Prop :=
  ∀ (x y : IVec S8x100000 32) (lg : FVec Ideal S8x100000 .f32), at' main_call0.v171 V = x → at' main_call0.v175 V = y → at' (.of main_v3) V = lg →
    at' (.of main_v46) W = argmax fun i => -(inner (x i ^^^ y i)) + lg i

/-- An array of one element has only the index 0. -/
theorem one_idx (j : S1.Idx) : j = fun a => ⟨0, by fin_cases a; decide⟩ := by
  funext a
  refine Fin.ext ?_
  have h := (j a).isLt
  fin_cases a
  exact Nat.lt_one_iff.mp h

/-- The first key word, out of the pair. -/
theorem key_fst (a b : IVec S1 32) (ha : a = fun _ => 0#32) (hb : b = fun _ => 1#32) :
    shapeCast S_ (extractStridedSlice S1 ![0] (concatenate S2 0 [⟨S1, a⟩, ⟨S1, b⟩] concatenates_S1_S1_S2_d0) slices_S2_S1_0) shapeCasts_S1_S_
      = constantI S_ 32 0#32 := by
  subst ha hb
  have h : ∀ j : S1.Idx, extractStridedSlice S1 ![0] (concatenate S2 0 [⟨S1, fun _ => 0#32⟩, ⟨S1, fun _ => 1#32⟩] concatenates_S1_S1_S2_d0) slices_S2_S1_0 j = 0#32 := by
    intro j
    rw [one_idx j]
    rfl
  funext i
  exact h _

/-- The second. -/
theorem key_snd (a b : IVec S1 32) (ha : a = fun _ => 0#32) (hb : b = fun _ => 1#32) :
    shapeCast S_ (extractStridedSlice S1 ![1] (concatenate S2 0 [⟨S1, a⟩, ⟨S1, b⟩] concatenates_S1_S1_S2_d0) slices_S2_S1_1) shapeCasts_S1_S_
      = constantI S_ 32 1#32 := by
  subst ha hb
  have h : ∀ j : S1.Idx, extractStridedSlice S1 ![1] (concatenate S2 0 [⟨S1, fun _ => 0#32⟩, ⟨S1, fun _ => 1#32⟩] concatenates_S1_S1_S2_d0) slices_S2_S1_1 j = 1#32 := by
    intro j
    rw [one_idx j]
    rfl
  funext i
  exact h _

/-- An entry's number has no bits above the low half of the 64-bit word it is computed in. -/
theorem high_word (i : S8x100000.Idx) :
    (IntOp.shrui .host (BitVec.ofNat 64 ((i 0).val * 100000 + (i 1).val)) 32#64).setWidth 32 = 0#32 := by
  have h0 : (i 0).val < 8 := (i 0).isLt
  have h1 : (i 1).val < 100000 := (i 1).isLt
  have h : IntOp.shrui .host (BitVec.ofNat 64 ((i 0).val * 100000 + (i 1).val)) 32#64 = BitVec.ofNat 64 ((i 0).val * 100000 + (i 1).val) >>> 32#64 :=
    if_pos (by decide)
  rw [h]
  apply BitVec.eq_of_toNat_eq
  simp only [BitVec.toNat_setWidth, BitVec.ushiftRight_eq', BitVec.toNat_ushiftRight, BitVec.toNat_ofNat, Nat.shiftRight_eq_div_pow]
  rw [Nat.mod_eq_of_lt (a := (i 0).val * 100000 + (i 1).val) (by omega)]
  have e : (i 0).val * 100000 + (i 1).val < 2 ^ (32 % 2 ^ 64) := by
    norm_num; omega
  rw [Nat.div_eq_of_lt e]

/-- The 64-bit counter of an element: its row times the row's length, and its column. -/
theorem half (i : S8x100000.Idx) :
    (100000#64 * BitVec.ofNat 64 (i 0).val + 1#64 * BitVec.ofNat 64 (i 1).val) = BitVec.ofNat 64 ((i 0).val * 100000 + (i 1).val) := by
  rw [BitVec.one_mul, BitVec.ofNat_add, BitVec.ofNat_mul, BitVec.mul_comm]

/-- The cipher's stages, one after another, are the cipher. -/
theorem cipher_line : Line (fn_threefry2x32.body (.of main_v12) (.of main_v14) (.of main_v25) (.of main_v24) main_call0) Cipher := by
  unfold fn_threefry2x32.body
  refine Line.mono (part0.bind (part1.bind (part2.bind part3))) ?_
  rintro V W ⟨U0, h0, U1, h1, U2, h2, h3⟩ hk hh hl
  obtain ⟨⟨a1, a2, a3⟩, hk0, p0⟩ := h0 hk _ _ hh hl
  have hk0' : Keys U0 := ⟨a1.trans hk.1, a2.trans hk.2⟩
  obtain ⟨⟨b1, b2, b3⟩, hk1, p1⟩ := h1 hk0' hk0 (at' main_call0.v40 U0) _ _ rfl rfl
  have hk1' : Keys U1 := ⟨b1.trans hk0'.1, b2.trans hk0'.2⟩
  obtain ⟨⟨c1, c2, c3⟩, hk2, p2⟩ := h2 hk1' hk1 _ _ rfl rfl
  have hk2' : Keys U2 := ⟨c1.trans hk1'.1, c2.trans hk1'.2⟩
  obtain ⟨⟨d1, d2, d3⟩, p3⟩ := h3 hk2' hk2 (at' main_call0.v137 U2) _ _ rfl rfl
  refine ⟨d3.trans (c3.trans (b3.trans a3)), fun i => ?_⟩
  rw [p3 i (p2 i).1, (p2 i).2, p1 i (p0 i).1, (p0 i).2]
  rfl

/-- The reference's line: what comes before the cipher, the cipher, what comes after. -/
theorem main_line (d : Dev nD) : Line (main (F := Ideal) d) (fun V W => ∃ U, Head V U ∧ ∃ U', Cipher U U' ∧ Tail U' W) := by
  apply Line.step
  case h1 =>
    unfold main
    repeat (with_reducible apply Then.cons)
    exact Then.nil
  case h2 => decide
  case h3 => intro _ h; (repeat (cases h with | head => rfl | tail _ h => ?_)); exact nomatch h
  case h4 =>
    intro V
    unfold Head Keys at'
    refine ⟨⟨?_, ?_⟩, ?_, ?_, ?_⟩
    all_goals after_results_simp
    all_goals simp only [StableHlo.TRef.ofBuf, cast_eq]
    · exact key_fst _ _ (by after_results_simp; rfl) (by after_results_simp; funext _; exact (by decide : (1#32 &&& 4294967295#32) = 1#32))
    · exact key_snd _ _ (by after_results_simp; rfl) (by after_results_simp; funext _; exact (by decide : (1#32 &&& 4294967295#32) = 1#32))
    · funext i
      refine Eq.trans ?_ (high_word i)
      rw [← half]
      rfl
    · funext i
      show BitVec.setWidth 32 (100000#64 * BitVec.ofNat 64 (i 0).val + 1#64 * BitVec.ofNat 64 (i 1).val) = _
      rw [half, counter]
      apply BitVec.eq_of_toNat_eq
      simp only [BitVec.toNat_setWidth, BitVec.toNat_ofNat]
      exact Nat.mod_mod_of_dvd _ (by decide)
    · rfl
  case hk =>
    refine Line.bind cipher_line ?_
    apply Line.of
    case h1 => hlo_seq
    case h2 => decide
    case h3 => intro _ h; (repeat (cases h with | head => rfl | tail _ h => ?_)); exact nomatch h
    case h4 =>
      intro V x y lg h1 h2 h3
      unfold at' at *
      after_results_simp
      simp only [StableHlo.TRef.ofBuf_toBuf]
      simp only [StableHlo.TRef.ofBuf, cast_eq] at *
      simp only [h1, h2, h3]
      refine congrArg argmax (funext fun i => ?_)
      unfold Noise.inner uniform
      have hu : ∀ w : BitVec 32, IntOp.shrui .host w 9#32 = w >>> 9#32 := fun w => if_pos (by decide)
      rw [← hu, ← mul_one (Ideal.ofBits .f32 _ - _), ← Ideal.ofBits_one_f32]
      rfl

/-- The scores the reference takes the arg-max of. -/
def score (x : FVec Ideal S8x128 .f32) (w : FVec Ideal S128x100000 .f32) (d : FVec Ideal S100000 .f32) : FVec Ideal S8x100000 .f32 :=
  fun i => gumbel (counter i) + logits x w d i

/-- The reference's line: its result is the arg-max of the scores. -/
theorem main_score (d : Dev nD) : Line (main (F := Ideal) d) (fun V W =>
    at' (.of main_v46) W = argmax (score (at' (.of main_arg0) V) (at' (.of main_arg1) V) (at' (.of main_arg2) V))) := by
  refine Line.mono (main_line d) ?_
  rintro V W ⟨U, ⟨hk, hh, hl, hlg⟩, U', hc, ht⟩
  obtain ⟨h3, hb⟩ := hc hk hh hl
  rw [ht _ _ _ rfl rfl (h3.trans hlg)]
  refine congrArg argmax (funext fun i => ?_)
  have e := hb i
  unfold score gumbel bits
  rw [← e]

/-- The reference runs, its result the arg-max of the scores and its arguments as launched. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v46)
        = argmax (score (m ((c.tc : Thread nD τ).loc main_arg0)) (m ((c.tc : Thread nD τ).loc main_arg1)) (m ((c.tc : Thread nD τ).loc main_arg2))) := by
  obtain ⟨ops, h1, h2, h3, h4⟩ := main_score 0
  refine (θ_run defs _ _).mono (fun r h c => ?_) (StableHlo.run_hlo defs main (fun _ => h1) (by decide) (by decide) h2 h3 m g)
  exact (h c main_v46).trans (h4 (StableHlo.launchContents m c))

end Cert.Proof.Reference

end
-- ==== Proof.Value.Argmax.lean ====
/-
  The first greatest entry of a row.

  A pair of a value and an index beats another when its value is greater, or equal with an index not above the other's.
  Two pairs that beat each other are equal, so a pair that beats all of a row's pairs and is one of them is the row's only
  such pair.
-/
module

public import proofs.«01_k».proof.Proof.Value.RefRun
public import Idealize.ShloMosaic.Lib.Pointwise.Index

@[expose] public section

noncomputable section

namespace Cert.Proof.Argmax

open Idealize.ShloMosaic

/-- A value and its index. -/
abbrev Entry : Type := EReal × BitVec 32

/-- `p`'s value is greater than `q`'s, or equal with an index not above `q`'s. -/
def Beats (p q : Entry) : Prop := q.1 < p.1 ∨ (q.1 = p.1 ∧ p.2.toInt ≤ q.2.toInt)

/-- A pair beats itself. -/
theorem Beats.refl (p : Entry) : Beats p p := Or.inr ⟨rfl, le_refl _⟩

/-- To beat is transitive. -/
theorem Beats.trans {p q r : Entry} (h : Beats p q) (k : Beats q r) : Beats p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- Two pairs that beat each other are equal. -/
theorem Beats.antisymm {p q : Entry} (h : Beats p q) (k : Beats q p) : p = q := by
  rcases h with h | ⟨h, h'⟩ <;> rcases k with k | ⟨k, k'⟩
  · exact absurd (h.trans k) (lt_irrefl _)
  · exact absurd (k ▸ h) (lt_irrefl _)
  · exact absurd (h ▸ k) (lt_irrefl _)
  · exact Prod.ext k (BitVec.eq_of_toInt_eq (le_antisymm h' k'))

/-- A fold whose step keeps one of its two pairs, the one that beats the other, ends in a pair that beats all. -/
theorem foldl_beats (f : Entry → Entry → Entry) (hf : ∀ a b, (f a b = a ∨ f a b = b) ∧ Beats (f a b) a ∧ Beats (f a b) b) :
    ∀ (l : List Entry) (p : Entry), l.foldl f p ∈ p :: l ∧ ∀ q ∈ p :: l, Beats (l.foldl f p) q
  | [], p => ⟨List.mem_cons_self, fun q hq => by rw [List.mem_singleton.mp hq]; exact Beats.refl p⟩
  | b :: l, p => by
    obtain ⟨h1, h2⟩ := foldl_beats f hf l (f p b)
    obtain ⟨g1, g2, g3⟩ := hf p b
    have h3 := h2 _ List.mem_cons_self
    rw [List.foldl_cons]
    constructor
    · rcases List.mem_cons.mp h1 with h | h
      · rcases g1 with g | g
        · rw [h, g]; exact List.mem_cons_self
        · rw [h, g]; exact List.mem_cons_of_mem _ List.mem_cons_self
      · exact List.mem_cons_of_mem _ (List.mem_cons_of_mem _ h)
    · intro q hq
      rcases List.mem_cons.mp hq with rfl | hq
      · exact h3.trans g2
      rcases List.mem_cons.mp hq with rfl | hq
      · exact h3.trans g3
      · exact h2 q (List.mem_cons_of_mem _ hq)

/-! ## The reference's -/

section Reference

open Cert.ReferenceIdeal Cert.ReferenceIdeal.Facts₀ Cert.ReferenceIdeal.Facts Cert.Proof.Reference

/-- The reference's step keeps the pair that beats the other. -/
theorem step_beats (a b : Entry) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  have hu : ∀ x : EReal, Ideal.cmp .une x x = 0#1 := fun x => by simp [Ideal.cmp]
  have e : reducer_argmax_f32_i32 (F := Ideal) (a1, a2) (b1, b2)
      = (Scalar.select (IntOp.ori (Ideal.cmp .ogt a1 b1) 0#1) a1 b1,
          Scalar.select (IntOp.ori (IntOp.ori (Ideal.cmp .ogt a1 b1) 0#1) (IntOp.andi (Ideal.cmp .oeq a1 b1) (IntOp.cmpi .slt a2 b2))) a2 b2) := by
    rw [← hu a1]; rfl
  rw [e]
  rcases lt_trichotomy a1 b1 with h | h | h
  · have h1 : Ideal.cmp .ogt a1 b1 = 0#1 := by simp [Ideal.cmp, not_lt.mpr h.le]
    have h2 : Ideal.cmp .oeq a1 b1 = 0#1 := by simp [Ideal.cmp, h.ne]
    have h3 : ∀ t : BitVec 1, IntOp.ori (IntOp.ori 0#1 0#1) (IntOp.andi 0#1 t) = 0#1 := by decide
    rw [h1, h2, h3]
    exact ⟨Or.inr rfl, Or.inl h, Beats.refl _⟩
  · subst h
    have h1 : Ideal.cmp .ogt a1 a1 = 0#1 := by simp [Ideal.cmp]
    have h2 : Ideal.cmp .oeq a1 a1 = 1#1 := by simp [Ideal.cmp]
    have h3 : ∀ t : BitVec 1, IntOp.ori (IntOp.ori 0#1 0#1) (IntOp.andi 1#1 t) = t := by decide
    rw [h1, h2, h3]
    by_cases hs : a2.toInt < b2.toInt
    · have h4 : IntOp.cmpi .slt a2 b2 = 1#1 := by simp [IntOp.cmpi, BitVec.slt, hs]
      rw [h4]
      exact ⟨Or.inl rfl, Beats.refl _, Or.inr ⟨rfl, hs.le⟩⟩
    · have h4 : IntOp.cmpi .slt a2 b2 = 0#1 := by simp [IntOp.cmpi, BitVec.slt, hs]
      rw [h4]
      exact ⟨Or.inr rfl, Or.inr ⟨rfl, not_lt.mp hs⟩, Beats.refl _⟩
  · have h1 : Ideal.cmp .ogt a1 b1 = 1#1 := by simp [Ideal.cmp, h]
    have h3 : ∀ t : BitVec 1, IntOp.ori (IntOp.ori 1#1 0#1) t = 1#1 := by decide
    rw [h1, h3]
    exact ⟨Or.inl rfl, Beats.refl _, Or.inl h⟩

/-- A pair of row `r`. -/
def entry (s : FVec Ideal S8x100000 .f32) (r : Fin 8) (x : Fin 100000) : Entry := (s (ix2 r x), BitVec.ofNat 32 x.val)

/-- The pair at an index of row `r`. -/
theorem entry_of (s : FVec Ideal S8x100000 .f32) (r : Fin 8) (i : S8x100000.Idx) (h : i 0 = r) :
    (s i, iotaInDim S8x100000 32 1 i) = entry s r (i 1) := by
  have e : i = ix2 r (i 1) := by rw [← h]; exact eq_ix2 i
  exact Prod.ext (congrArg s e) rfl

/-- An index drops to row `r` when its first coordinate is `r`. -/
theorem drop_iff (r : Fin 8) (i : S8x100000.Idx) : reducesTo_S8x100000_S8_d1.drop i = (ix1 r : S8.Idx) ↔ i 0 = r := by
  have h := reducesTo_S8x100000_S8_d1.drop_apply_val_of_eq i 0 0
  constructor
  · intro e; rw [e] at h; exact Fin.ext h.symm
  · intro e; funext a; fin_cases a; exact Fin.ext (h.trans (congrArg Fin.val e))

/-- The pairs the reference folds for row `r` are the row's. -/
theorem mem_fiber (s : FVec Ideal S8x100000 .f32) (r : Fin 8) (p : Entry) :
    p ∈ Host.argReduceFiber s (iotaInDim S8x100000 32 1) reducesTo_S8x100000_S8_d1 (ix1 r : S8.Idx) ↔ ∃ x, p = entry s r x := by
  unfold Host.argReduceFiber
  simp only [List.mem_map, List.mem_filter, List.mem_finRange, true_and, decide_eq_true_eq, drop_iff]
  constructor
  · rintro ⟨n, h, rfl⟩
    exact ⟨_, entry_of s r _ h⟩
  · rintro ⟨x, rfl⟩
    refine ⟨S8x100000.rowMajor (ix2 r x), ?_⟩
    rw [Equiv.symm_apply_apply]
    exact ⟨rfl, entry_of s r _ rfl⟩

/-- The word of minus infinity. -/
theorem bits_bot : constant (F := Ideal) S_ .f32 0xFF800000#32 (Shape.Idx.first h_S_) = (⊥ : EReal) := by
  show Ideal.ofBits .f32 0xFF800000#32 = ⊥
  simp [Ideal.ofBits, Ideal.ieee]

/-- The reference's fold of row `r`. -/
def rowFold (s : FVec Ideal S8x100000 .f32) (r : Fin 8) : Entry :=
  (Host.argReduceFiber s (iotaInDim S8x100000 32 1) reducesTo_S8x100000_S8_d1 (ix1 r : S8.Idx)).foldl (reducer_argmax_f32_i32 (F := Ideal))
    (constant (F := Ideal) S_ .f32 0xFF800000#32 (Shape.Idx.first h_S_), constantI S_ 32 0#32 (Shape.Idx.first h_S_))

/-- What the reference computes for row `r` is its fold. -/
theorem argPair_eq (s : FVec Ideal S8x100000 .f32) (r : Fin 8) : argPair s (ix1 r) = rowFold s r := by
  unfold argPair rowFold
  rw [Ideal.argReduce_eq_reduce2, Host.reduce2_eq_foldl_fiber]

/-- The reference's index of row `r` is its fold's. -/
theorem argmax_eq (s : FVec Ideal S8x100000 .f32) (r : Fin 8) : argmax s (ix1 r) = (rowFold s r).2 := by
  unfold argmax
  rw [argPair_eq]

/-- The fold ends in the pair of the row that beats all the row's. -/
theorem rowFold_spec (s : FVec Ideal S8x100000 .f32) (r : Fin 8) : ∃ x, rowFold s r = entry s r x ∧ ∀ y, Beats (rowFold s r) (entry s r y) := by
  have h := foldl_beats _ step_beats (Host.argReduceFiber s (iotaInDim S8x100000 32 1) reducesTo_S8x100000_S8_d1 (ix1 r : S8.Idx))
    (constant (F := Ideal) S_ .f32 0xFF800000#32 (Shape.Idx.first h_S_), constantI S_ 32 0#32 (Shape.Idx.first h_S_))
  change rowFold s r ∈ _ ∧ ∀ q ∈ _, Beats (rowFold s r) q at h
  generalize rowFold s r = R at h ⊢
  obtain ⟨h1, h2⟩ := h
  have hy : ∀ y, Beats R (entry s r y) := fun y => h2 _ (List.mem_cons_of_mem _ ((mem_fiber s r _).2 ⟨y, rfl⟩))
  have hx : ∃ x, R = entry s r x := by
    rcases List.mem_cons.mp h1 with h | h
    · refine ⟨0, (hy 0).antisymm ?_⟩
      rw [h]
      rcases eq_or_lt_of_le (bot_le (a := s (ix2 r 0))) with e | e
      · exact Or.inr ⟨bits_bot.trans e, le_refl _⟩
      · exact Or.inl (lt_of_eq_of_lt bits_bot e)
    · exact (mem_fiber s r _).1 h
  obtain ⟨x, hx⟩ := hx
  exact ⟨x, hx, hy⟩

/-- The reference's index of row `r` is that of the pair of the row that beats all the row's. -/
theorem argmax_spec (s : FVec Ideal S8x100000 .f32) (r : Fin 8) :
    ∃ x, argmax s (ix1 r) = BitVec.ofNat 32 x.val ∧ ∀ y, Beats (entry s r x) (entry s r y) := by
  obtain ⟨x, hx, hy⟩ := rowFold_spec s r
  exact ⟨x, (argmax_eq s r).trans (congrArg Prod.snd hx), fun y => hx ▸ hy y⟩

end Reference

end Cert.Proof.Argmax

end
-- ==== Proof.Value.KernelMax.lean ====
/-
  What the kernel's loop keeps: the greatest score so far and its first index.
-/
module

public import proofs.«01_k».proof.Proof.Run.Fold
public import proofs.«01_k».proof.Proof.Value.Argmax
public import Idealize.ShloMosaic.Lib.SortNet.Extract
public import Idealize.ShloMosaic.Lib.Pointwise.Index
public import Idealize.ShloMosaic.Lib.Pointwise.Tactic

@[expose] public section

noncomputable section

namespace Cert.Proof.KernelValue

open Cert.KernelIdeal Cert.KernelIdeal.Gen Cert.Proof.Run Cert.Proof.Argmax
open Idealize.ShloMosaic

/-! ## One chunk -/

/-- The lesser of two words is one of them, and above neither. -/
theorem minsi_or (a b : BitVec 32) :
    (IntOp.minsi a b = a ∨ IntOp.minsi a b = b) ∧ (IntOp.minsi a b).toInt ≤ a.toInt ∧ (IntOp.minsi a b).toInt ≤ b.toInt := by
  have h := SortNet.toInt_minsi a b
  refine ⟨?_, by rw [h]; exact min_le_left _ _, by rw [h]; exact min_le_right _ _⟩
  rcases min_choice a.toInt b.toInt with e | e
  · exact Or.inl (BitVec.eq_of_toInt_eq (h.trans e))
  · exact Or.inr (BitVec.eq_of_toInt_eq (h.trans e))

/-- The least of some words is the first given or one of them, and above none. -/
theorem fold_minsi {n : ℕ} (b : BitVec 32) (g : Fin n → BitVec 32) (s : Finset (Fin n)) :
    (s.fold IKind.minsi.op b g = b ∨ ∃ j ∈ s, s.fold IKind.minsi.op b g = g j) ∧ ∀ j ∈ s, (s.fold IKind.minsi.op b g).toInt ≤ (g j).toInt := by
  induction s using Finset.induction_on with
  | empty => exact ⟨Or.inl Finset.fold_empty, fun j hj => absurd hj (Finset.notMem_empty j)⟩
  | insert a s ha ih =>
    rw [Finset.fold_insert ha]
    obtain ⟨h1, h2⟩ := ih
    obtain ⟨o, l1, l2⟩ := minsi_or (g a) (s.fold IKind.minsi.op b g)
    constructor
    · rcases o with o | o
      · exact Or.inr ⟨a, Finset.mem_insert_self _ _, o⟩
      · rcases h1 with h1 | ⟨j, hj, h1⟩
        · exact Or.inl (o.trans h1)
        · exact Or.inr ⟨j, Finset.mem_insert_of_mem hj, o.trans h1⟩
    · intro j hj
      rcases Finset.mem_insert.mp hj with rfl | hj
      · exact l1
      · exact l2.trans (h2 j hj)

/-- The greatest of a chunk's values, and the least of the indices where it stands, are one of the chunk's pairs and beat all of them. -/
theorem chunk_best (f : Fin 5000 → EReal) (ix : Fin 5000 → BitVec 32) (hix : ∀ j, (ix j).toInt < 2147483647) (M : EReal) (R : BitVec 32)
    (hM : M = Finset.univ.fold max ⊥ f)
    (hR : R = Finset.univ.fold IKind.minsi.op 2147483647#32 fun j => Scalar.select (Ideal.cmp .oeq (f j) M) (ix j) 2147483647#32) :
    ∃ j, (M, R) = (f j, ix j) ∧ ∀ j', Beats (M, R) (f j', ix j') := by
  have hs : M = Finset.univ.sup f := hM
  obtain ⟨i, -, hi⟩ := Finset.exists_mem_eq_sup Finset.univ ⟨0, Finset.mem_univ _⟩ f
  rw [← hs] at hi
  have hle : ∀ j, f j ≤ M := fun j => hs ▸ Finset.le_sup (Finset.mem_univ j)
  have hsel : ∀ j, f j = M → Scalar.select (Ideal.cmp .oeq (f j) M) (ix j) 2147483647#32 = ix j := fun j h => by
    rw [h]; simp [Ideal.cmp, Scalar.select]
  obtain ⟨h1, h2⟩ := fold_minsi 2147483647#32 (fun j => Scalar.select (Ideal.cmp .oeq (f j) M) (ix j) 2147483647#32) Finset.univ
  rw [← hR] at h1 h2
  have hb : ∀ j, f j = M → R.toInt ≤ (ix j).toInt := fun j h => (h2 j (Finset.mem_univ j)).trans (by rw [hsel j h])
  have hne : R ≠ 2147483647#32 := fun h => by
    have a := hb i hi.symm
    have b := hix i
    rw [h, show (2147483647#32 : BitVec 32).toInt = 2147483647 by decide] at a
    omega
  refine ⟨?_, ?_⟩
  · exact (h1.resolve_left hne).choose
  · have hj := (h1.resolve_left hne).choose_spec.2
    generalize (h1.resolve_left hne).choose = j at hj
    have hf : f j = M := by
      by_contra h
      refine hne (hj.trans ?_)
      simp [Ideal.cmp, Scalar.select, h]
    refine ⟨Prod.ext hf.symm (hj.trans (hsel j hf)), fun j' => ?_⟩
    rcases (hle j').lt_or_eq with h | h
    · exact Or.inl h
    · exact Or.inr ⟨h, hb j' h⟩

/-! ## A trip's stores, at a row -/

section Point

variable (w : BitVec 32) (a b z : FVec Ideal S8x5000 .f32) (ix : IVec S8x5000 32) (v : Vec Ideal S8x1 .f32) (u : Vec Ideal S8x1 .i32) (r : Fin 8)

/-- A row's greatest score in the chunk. -/
theorem pay2_at : k0_pay2 (F := Ideal) a b z (ix2 r 0) = Finset.univ.fold max (⊥ : EReal) fun j : Fin 5000 => k0_pay1 (F := Ideal) a b z (ix2 r j) := by
  unfold k0_pay2
  pointwise
  rw [show Ideal.ofBits .f32 4286578688#32 = ⊥ by simp [Ideal.ofBits, Ideal.ieee]]

/-- Whether it is kept. -/
theorem pay3_at : k0_pay3 (F := Ideal) w a b z v (ix2 r 0)
    = IntOp.ori (Ideal.cmp .ogt (k0_pay2 (F := Ideal) a b z (ix2 r 0)) (v (ix2 r 0))) (Scalar.cmpi .eq w 0#32) := by
  unfold k0_pay3
  generalize k0_pay2 (F := Ideal) a b z = q
  rfl

/-- The score kept. -/
theorem pay4_at : k0_pay4 (F := Ideal) w a b z v v (ix2 r 0)
    = Scalar.select (k0_pay3 (F := Ideal) w a b z v (ix2 r 0)) (k0_pay2 (F := Ideal) a b z (ix2 r 0)) (v (ix2 r 0)) := by
  unfold k0_pay4
  generalize k0_pay3 (F := Ideal) w a b z v = p
  generalize k0_pay2 (F := Ideal) a b z = q
  pointwise

/-- The index kept. -/
theorem pay5_at : k0_pay5 (F := Ideal) w a ix b z v u (ix2 r 0)
    = Scalar.select (k0_pay3 (F := Ideal) w a b z v (ix2 r 0))
        (Finset.univ.fold IKind.minsi.op 2147483647#32 fun j : Fin 5000 =>
          Scalar.select (Ideal.cmp .oeq (k0_pay1 (F := Ideal) a b z (ix2 r j)) (k0_pay2 (F := Ideal) a b z (ix2 r 0))) (ix (ix2 r j)) 2147483647#32)
        (u (ix2 r 0)) := by
  unfold k0_pay5
  generalize k0_pay3 (F := Ideal) w a b z v = p
  generalize k0_pay2 (F := Ideal) a b z = q
  generalize k0_pay1 (F := Ideal) a b z = f
  pointwise

end Point

/-- A trip's index of a lane: its column. -/
theorem pay7_at (k : Fin k0_t1_loop.trips) (r : Fin 8) (j : Fin 5000) : k0_pay7 0#32 1#32 k (ix2 r j) = BitVec.ofNat 32 (k.val * 5000 + j.val) := by
  have hw : Scalar.muli (Scf.iv 0#32 1#32 k) 5000#32 = BitVec.ofNat 32 (k.val * 5000) := by revert k; decide +kernel
  unfold k0_pay7
  rw [hw]
  show BitVec.ofNat 32 (k.val * 5000) + iota .tc S8x5000 32 [1] iota_S8x5000_d1_w32 (ix2 r j) = _
  rw [BitVec.ofNat_add]
  refine congrArg _ ?_
  pointwise

/-- Only the first trip's number is zero. -/
theorem word_pos (k : Fin k0_t1_loop.trips) (hk : k.val ≠ 0) : Scalar.cmpi .eq (word k) 0#32 = 0#1 := by
  revert k; decide +kernel

/-- A column's word, as an integer. -/
theorem toInt_col (n : ℕ) (h : n < 100000) : (BitVec.ofNat 32 n).toInt = n := by
  rw [BitVec.toInt_eq_toNat_of_lt] <;> rw [BitVec.toNat_ofNat, Nat.mod_eq_of_lt (by omega)]
  omega

/-- A bit that is not one is zero. -/
theorem bit_zero : ∀ p : BitVec 1, ¬p = 1#1 → p = 0#1 := by decide

/-- A choice by a one bit is the first. -/
theorem select_one {α : Type} (a b : α) : Scalar.select 1#1 a b = a := rfl
/-- A choice by a zero bit is the second. -/
theorem select_zero {α : Type} (a b : α) : Scalar.select 0#1 a b = b := rfl

/-- The comparison's bit is one when the first is greater, -/
theorem cmp_of (a b : EReal) (h : b < a) : Ideal.cmp .ogt a b = 1#1 := by simp [Ideal.cmp, h]
/-- and zero when it is not. -/
theorem cmp_not (a b : EReal) (h : ¬b < a) : Ideal.cmp .ogt a b = 0#1 := by simp [Ideal.cmp, h]

/-! ## The loop -/

/-- The column of lane `j` at trip `k`. -/
def col (k : Fin k0_t1_loop.trips) (j : Fin 5000) : Fin 100000 :=
  ⟨k.val * 5000 + j.val, by have h := k.isLt; have e := trips_eq; omega⟩

/-- What the two buffers hold at row `r` before trip `n`: one of the pairs seen, which beats all the pairs seen. -/
def Kept (s : FVec Ideal Cert.ReferenceIdeal.S8x100000 .f32) (r : Fin 8) (n : ℕ) (v : St Ideal) : Prop :=
  ∃ x : Fin 100000, x.val < n * 5000 ∧ ((v.1 (ix2 r 0), v.2 (ix2 r 0)) : Entry) = entry s r x
    ∧ ∀ y : Fin 100000, y.val < n * 5000 → Beats (entry s r x) (entry s r y)

/-- A column below the end of trip `k` is before the trip or in it. -/
theorem col_cases (k : Fin k0_t1_loop.trips) (y : Fin 100000) (h : y.val < (k.val + 1) * 5000) : y.val < k.val * 5000 ∨ ∃ j, y = col k j := by
  by_cases g : y.val < k.val * 5000
  · exact Or.inl g
  · exact Or.inr ⟨⟨y.val - k.val * 5000, by omega⟩, Fin.ext (by show y.val = k.val * 5000 + (y.val - k.val * 5000); omega)⟩

/-- A trip keeps it so. -/
theorem kept_step (s : FVec Ideal Cert.ReferenceIdeal.S8x100000 .f32) (r : Fin 8) (k : Fin k0_t1_loop.trips) (lg : FVec Ideal S8x5000 .f32) (v : St Ideal)
    (hs : ∀ j, k0_pay1 (F := Ideal) lg (Run.inner k) k0_pay47 (ix2 r j) = s (ix2 r (col k j))) (hv : k.val = 0 ∨ Kept s r k.val v) :
    Kept s r (k.val + 1) (stepV k lg v) := by
  obtain ⟨j, hj, hbest⟩ := chunk_best (fun j => s (ix2 r (col k j))) (fun j => BitVec.ofNat 32 (k.val * 5000 + j.val))
    (fun j => by have h : k.val * 5000 + j.val < 100000 := (col k j).isLt
                 rw [toInt_col _ h]; omega) _ _ rfl rfl
  have e1 : (stepV k lg v).1 (ix2 r 0) = _ := pay4_at (word k) lg (Run.inner k) k0_pay47 v.1 r
  have e2 : (stepV k lg v).2 (ix2 r 0) = _ := pay5_at (word k) lg (Run.inner k) k0_pay47 (k0_pay7 0#32 1#32 k) v.1 v.2 r
  have hp := pay3_at (word k) lg (Run.inner k) k0_pay47 v.1 r
  rw [pay2_at] at e1 e2 hp
  simp only [hs, pay7_at] at e1 e2 hp
  generalize k0_pay3 (F := Ideal) (word k) lg (Run.inner k) k0_pay47 v.1 (ix2 r 0) = p at e1 e2 hp
  generalize (Finset.univ.fold max ⊥ fun j => s (ix2 r (col k j)) : EReal) = M at e1 e2 hp hj hbest
  generalize (Finset.univ.fold IKind.minsi.op 2147483647#32 fun j =>
    Scalar.select (Ideal.cmp .oeq (s (ix2 r (col k j))) M) (BitVec.ofNat 32 (k.val * 5000 + j.val)) 2147483647#32) = R at e1 e2 hj hbest
  have hent : ((M, R) : Entry) = entry s r (col k j) := hj
  have hin : ∀ j', Beats (M, R) (entry s r (col k j')) := hbest
  have hcol : ∀ j, (col k j).val < (k.val + 1) * 5000 := fun j => by show k.val * 5000 + j.val < _; omega
  by_cases hb : p = 1#1
  · subst hb
    refine ⟨col k j, hcol j, ?_, ?_⟩
    · rw [← hent, e1, e2, select_one, select_one]
    · rw [← hent]
      intro y hy
      rcases col_cases k y hy with g | ⟨j', rfl⟩
      · rcases hv with hv | ⟨x, hx, hxe, hxb⟩
        · rw [hv] at g; omega
        · refine Beats.trans ?_ (hxb y g)
          rw [← hxe]
          refine Or.inl ?_
          by_contra hlt
          have hk : k.val ≠ 0 := fun h => by rw [h] at hx; omega
          rw [word_pos k hk] at hp
          have h0 : Ideal.cmp .ogt M (v.1 (ix2 r 0)) = 0#1 := cmp_not _ _ hlt
          rw [h0] at hp
          exact absurd hp (by decide)
      · exact hin j'
  · have h1 : p = 0#1 := bit_zero p hb
    subst h1
    have hk : k.val ≠ 0 := fun h => by
      have hw : Scalar.cmpi .eq (word k) 0#32 = 1#1 := by unfold word; rw [h]; rfl
      have ho : ∀ t : BitVec 1, IntOp.ori t 1#1 = 1#1 := by decide
      rw [hw, ho] at hp
      exact absurd hp (by decide)
    obtain ⟨x, hx, hxe, hxb⟩ := hv.resolve_left hk
    rw [word_pos k hk] at hp
    have hle : M ≤ v.1 (ix2 r 0) := by
      by_contra hlt
      have h0 : Ideal.cmp .ogt M (v.1 (ix2 r 0)) = 1#1 := cmp_of _ _ (not_le.mp hlt)
      rw [h0] at hp
      exact absurd hp (by decide)
    refine ⟨x, lt_of_lt_of_le hx (Nat.mul_le_mul_right _ (Nat.le_succ _)), ?_, ?_⟩
    · rw [← hxe, e1, e2, select_zero, select_zero]
    · intro y hy
      rcases col_cases k y hy with g | ⟨j', rfl⟩
      · exact hxb y g
      · refine Beats.trans ?_ (hin j')
        rcases hle.lt_or_eq with h | h
        · exact Or.inl (by rw [← hxe]; exact h)
        · refine Or.inr ⟨by rw [← hxe]; exact h, ?_⟩
          rw [hent]
          show (BitVec.ofNat 32 x.val).toInt ≤ (BitVec.ofNat 32 (k.val * 5000 + j.val)).toInt
          have hc : k.val * 5000 + j.val < 100000 := (col k j).isLt
          rw [toInt_col _ x.isLt, toInt_col _ hc]
          omega

/-- So it is after any number of trips but none. -/
theorem kept_vals (s : FVec Ideal Cert.ReferenceIdeal.S8x100000 .f32) (r : Fin 8) (lg : Fin k0_t1_loop.trips → FVec Ideal S8x5000 .f32) (v : St Ideal)
    (hs : ∀ k j, k0_pay1 (F := Ideal) (lg k) (Run.inner k) k0_pay47 (ix2 r j) = s (ix2 r (col k j))) :
    ∀ n, n < k0_t1_loop.trips → Kept s r (n + 1) (vals lg v (n + 1))
  | 0, h => by
    rw [vals_succ lg v ⟨0, h⟩]
    exact kept_step s r ⟨0, h⟩ _ _ (hs _) (Or.inl rfl)
  | n + 1, h => by
    rw [vals_succ lg v ⟨n + 1, h⟩]
    exact kept_step s r ⟨n + 1, h⟩ _ _ (hs _) (Or.inr (kept_vals s r lg v hs n (by omega)))

/-- After the last trip the index kept is the reference's arg-max. -/
theorem vals_argmax (s : FVec Ideal Cert.ReferenceIdeal.S8x100000 .f32) (r : Fin 8) (lg : Fin k0_t1_loop.trips → FVec Ideal S8x5000 .f32) (v : St Ideal)
    (hs : ∀ k j, k0_pay1 (F := Ideal) (lg k) (Run.inner k) k0_pay47 (ix2 r j) = s (ix2 r (col k j))) :
    (vals lg v 20).2 (ix2 r 0) = Reference.argmax s (ix1 r) := by
  obtain ⟨x, -, hxe, hxb⟩ := kept_vals s r lg v hs 19 (by rw [trips_eq]; decide)
  obtain ⟨z, hz, hzb⟩ := argmax_spec s r
  have e := Beats.antisymm (hxb z z.isLt) (hzb x)
  rw [hz]
  exact (congrArg Prod.snd hxe).trans (congrArg Prod.snd e)

end Cert.Proof.KernelValue

end
-- ==== Proof.Value.KernelScore.lean ====
/-
  The score a trip of the kernel computes, at row `r` and lane `j`: the reference's, at column `5000 k + j`.
-/
module

public import proofs.«01_k».proof.Proof.Value.KernelNoise
public import proofs.«01_k».proof.Proof.Run.Launch
public import proofs.«01_k».proof.Proof.Value.KernelMax
public import Idealize.ShloMosaic.Lib.Claim
public import Idealize.ShloMosaic.Lib.Pipeline.ValueKit
public import Idealize.ShloMosaic.Lib.Pointwise.Index
public import Idealize.ShloMosaic.Lib.Pointwise.Tactic
public import Idealize.ShloMosaic.Lib.Pointwise.Contract

@[expose] public section

noncomputable section

namespace Cert.Proof.KernelValue

open Cert.KernelIdeal Cert.KernelIdeal.Gen Cert.Proof.Run
open Idealize.ShloMosaic Idealize.SL.Sem
open Idealize.ShloMosaic.TcCoe

variable (m : (ℓ : Loc nD τ sig) → Buf (Elt Ideal) ℓ) (c : Dev nD)

/-- The first argument, as the reference takes it: the states. -/
abbrev x0 : FVec Ideal Cert.ReferenceIdeal.S8x128 .f32 := m ((c : Thread nD τ).loc main_arg0)
/-- The second: the weights. -/
abbrev w0 : FVec Ideal Cert.ReferenceIdeal.S128x100000 .f32 := m ((c : Thread nD τ).loc main_arg1)
/-- The third: the bias. -/
abbrev d0 : FVec Ideal Cert.ReferenceIdeal.S100000 .f32 := m ((c : Thread nD τ).loc main_arg2)

/-! ## The two matrix products, at a point -/

/-- A trip's logit: a row's product with a lane's weights, and the lane's bias. -/
theorem pay6_at (a : Vec Ideal S1x5000x128 .f32) (x : Vec Ideal S8x128 .f32) (b : Vec Ideal S1x1x5000 .f32) (r : Fin 8) (j : Fin 5000) :
    k0_pay6 (F := Ideal) a x b (ix2 r j) = (∑ q : Fin 128, x (ix2 r q) * a (ix3 0 j q)) + b (ix3 0 0 j) := by
  unfold k0_pay6
  pointwise

/-- The reference's logit. -/
theorem logits_at (x : FVec Ideal Cert.ReferenceIdeal.S8x128 .f32) (w : FVec Ideal Cert.ReferenceIdeal.S128x100000 .f32)
    (d : FVec Ideal Cert.ReferenceIdeal.S100000 .f32) (r : Fin 8) (j : Fin 100000) :
    Reference.logits x w d (ix2 r j) = (∑ q : Fin 128, x (ix2 r q) * w (ix2 q j)) + d (ix1 j) := by
  unfold Reference.logits
  pointwise

/-! ## What a trip reads -/

/-- The transposed weights the chunks are copied from. -/
theorem weights_eq' : XAof m c = transpose S100000x128 [1, 0] (m ((c : Thread nD τ).loc main_arg1)) transposes_S128x100000_S100000x128_1_0 := by
  unfold XAof V V0
  after_results_simp
  rfl
/-- The reshaped bias. -/
theorem bias_eq' : V m c main_call0_v1 = shapeCast S20x1x5000 (m ((c : Thread nD τ).loc main_arg2)) shapeCasts_S100000_S20x1x5000 := by
  unfold V V0
  unfold hostOps0
  after_results_simp
  rfl
/-- The transposed weights at a row are the weights at a column. -/
theorem weights_at (q : Fin 128) (j : Fin 100000) (w : FVec Ideal S128x100000 .f32) :
    transpose S100000x128 [1, 0] w transposes_S128x100000_S100000x128_1_0 (ix2 j q) = w (ix2 q j) := by
  pointwise
/-- The reshaped bias at row `k` and lane `j` is the bias at `5000 k + j`. -/
theorem bias_at (k : Fin 20) (j : Fin 5000) (w : FVec Ideal S100000 .f32) :
    shapeCast S20x1x5000 w shapeCasts_S100000_S20x1x5000 (ix3 k 0 j) = w (ix1 ⟨k.val * 5000 + j.val, by omega⟩) := by
  pointwise

/-- Chunk `b` holds rows `5000 b` and on. -/
theorem chunk_at (XA : FVec Ideal S100000x128 .f32) (b : Fin 20) (j : Fin 5000) (q : Fin 128) :
    payload (F := Ideal) c XA b (ix2 j q) = XA (ix2 ⟨b.val * 5000 + j.val, by omega⟩ q) := by
  show XA ((Rect.unit (s := S100000x128) (chunkOff b) S5000x128.size (chunkOff_inb b)).emb (ix2 j q)) = _
  refine congrArg XA (funext fun a => Fin.ext ?_)
  rw [Idealize.ShloMosaic.ValueKit.rect_emb_unit_val]
  fin_cases a
  · rfl
  · exact Nat.zero_add _

/-- A slot's leading axis dropped. -/
theorem squeeze_at (Z : FVec Ideal S1x5000x128 .f32) (h) (j : Fin 5000) (q : Fin 128) : shapeCast S5000x128 Z h (ix2 j q) = Z (ix3 0 j q) := by
  pointwise

/-- The input windows' blocks are whole arrays. -/
theorem idx_zero (t : Fin cfg0.N) : win0_0.index t = ![0, 0] ∧ win0_1.index t = ![0, 0, 0] := by
  revert t; decide +kernel

/-- A slot that a chunk landed in, read. -/
theorem slot_at (s : Fin 3) (off) (e : off = slotOff s) (inb) (P : S5000x128.Idx → Elt Ideal .f32) (f) (j : Fin 5000) (q : Fin 128) :
   View.readAt (Elt Ideal) bufM.view (Rect.unit (s := S3x5000x128) off S1x5000x128.size inb).toLoadRect
            ((rslot s).view.writes (Elt Ideal) f [⟨Rect.whole S5000x128, P⟩]) (ix3 0 j q) = P (ix2 j q) := by
  subst e
  have h := View.read_writes_full (Val := Elt Ideal) (rslot s).view f (off := fun _ => 0) (by intro a; exact Nat.zero_add _ |>.le) P []
  have h' : shapeCast (s := S1x5000x128) S5000x128 (View.readAt (Elt Ideal) bufM.view (Rect.unit (s := S3x5000x128) (slotOff s) S1x5000x128.size inb).toLoadRect
            ((rslot s).view.writes (Elt Ideal) f [⟨Rect.whole S5000x128, P⟩])) (by decide) = P := h
  refine Eq.trans ?_ (congrFun h' (ix2 j q))
  exact (squeeze_at _ _ j q).symm

/-- The first window's block is the first argument. -/
theorem blk0 (t) (r : Fin 8) (q : Fin 128) : iblk m c 0 t (ix2 r q) = m ((c : Thread nD τ).loc main_arg0) (ix2 r q) := by
  unfold iblk
  entry_read
  blk_ext! [idx_zero t]
/-- The second window's block is the reshaped bias. -/
theorem blk1 (t) (k : Fin 20) (q : Fin 5000) : iblk m c 1 t (ix3 k 0 q) = shapeCast S20x1x5000 (m ((c : Thread nD τ).loc main_arg2)) shapeCasts_S100000_S20x1x5000 (ix3 k 0 q) := by
  unfold iblk
  entry_read
  blk_ext! [idx_zero t]

/-- Row `b` of the staged bias, read. -/
theorem biasRow_at {arg2 : Memref sig .tc .vmem S20x1x5000 .f32} (x : S20x1x5000.Idx → Elt Ideal .f32) (b : Fin 20) (off) (e : off = biasOff b) (inb)
    (j : Fin 5000) :
    View.readAt (Elt Ideal) arg2.view (Rect.unit (s := S20x1x5000) off S1x1x5000.size inb).toLoadRect (arg2.view.rep x) (ix3 0 0 j) = x (ix3 b 0 j) := by
  subst e
  rw [View.readAt_rep]
  refine congrArg x (funext fun a => Fin.ext ?_)
  refine (Idealize.ShloMosaic.ValueKit.rect_emb_unit_val _ _ inb _ a).trans ?_
  fin_cases a
  · exact Nat.add_zero _
  · rfl
  · exact Nat.zero_add _

/-- A trip's number is below 20. -/
theorem bk_eq (k : Fin k0_t1_loop.trips) : (Ring.bk 20 k.val).val = k.val := by
  have h := k.isLt
  have e := trips_eq
  exact Nat.mod_eq_of_lt (by omega)

/-- A trip's logits are the reference's at its columns. -/
theorem trip_logits (t : Fin cfg0.N) (k : Fin k0_t1_loop.trips) (r : Fin 8) (j : Fin 5000) :
    Run.logits c (XAof m c) (st0_0 t) (st0_1 t) ((st0_0 t).view.rep (iblk m c 0 t)) ((st0_1 t).view.rep (iblk m c 1 t)) k (ix2 r j)
      = Reference.logits (x0 m c) (w0 m c) (d0 m c) (ix2 r (col k j)) := by
  have hc : (⟨(Ring.bk 20 k.val).val * 5000 + j.val, by omega⟩ : Fin 100000) = col k j := Fin.ext (congrArg (fun n : ℕ => n * 5000 + j.val) (bk_eq k))
  unfold Run.logits Run.tripRun.sl.r
  rw [pay6_at, logits_at]
  unfold Run.tripRun.sl.v26
  refine congrArg₂ (· + ·) (Finset.sum_congr rfl fun q _ => congrArg₂ (· * ·) ?_ ?_) ?_
  · refine (congrFun (View.readAt_rep_full _ _ _) _).trans ?_
    exact blk0 m c t r q
  · refine (slot_at _ _ (off4_eq k) _ _ _ j q).trans ?_
    rw [chunk_at, weights_eq', weights_at, hc]
  · refine (biasRow_at _ _ _ (off5_eq k) _ j).trans ?_
    rw [blk1, bias_at, hc]

/-- A trip's score, from its logit and its noise. -/
theorem pay1_at (a b z : FVec Ideal S8x5000 .f32) (i) : k0_pay1 (F := Ideal) a b z i = (z i - b i + a i : EReal) := rfl

/-- The kernel's zero. -/
theorem zero_at (i) : k0_pay47 (F := Ideal) i = (0 : EReal) := Ideal.ofBits_zero_f32

/-- The counter of a lane is the reference's at its column. -/
theorem counter_eq (k : Fin k0_t1_loop.trips) (r : Fin 8) (j : Fin 5000) :
    Noise.counter k (ix2 r j) = Reference.counter (ix2 r (col k j)) := by
  unfold Noise.counter Reference.counter col
  rfl

/-- The reference's score, at a point. -/
theorem score_at (x : FVec Ideal Cert.ReferenceIdeal.S8x128 .f32) (w : FVec Ideal Cert.ReferenceIdeal.S128x100000 .f32)
    (d : FVec Ideal Cert.ReferenceIdeal.S100000 .f32) (i) :
    Reference.score x w d i = Noise.gumbel (Reference.counter i) + Reference.logits x w d i := rfl

/-- So a trip's scores are the reference's. -/
theorem trip_score (t : Fin cfg0.N) (k : Fin k0_t1_loop.trips) (r : Fin 8) (j : Fin 5000) :
    k0_pay1 (F := Ideal) (Run.logits c (XAof m c) (st0_0 t) (st0_1 t) ((st0_0 t).view.rep (iblk m c 0 t)) ((st0_1 t).view.rep (iblk m c 1 t)) k)
        (Run.inner k) k0_pay47 (ix2 r j)
      = Reference.score (x0 m c) (w0 m c) (d0 m c) (ix2 r (col k j)) := by
  have e := trip_logits m c t k r j
  generalize Run.logits c (XAof m c) (st0_0 t) (st0_1 t) ((st0_0 t).view.rep (iblk m c 0 t)) ((st0_1 t).view.rep (iblk m c 1 t)) k = a at e ⊢
  rw [pay1_at, score_at, zero_at, zero_sub, e, Noise.inner_eq, counter_eq]
  unfold Noise.gumbel
  rfl

end Cert.Proof.KernelValue

end
-- ==== Proof.Value.KernelResult.lean ====
/-
  The kernel's result: the reference's arg-max of the same arguments.
-/
module

public import proofs.«01_k».proof.Proof.Value.KernelScore

@[expose] public section

noncomputable section

namespace Cert.Proof.KernelValue

open Cert.KernelIdeal Cert.KernelIdeal.Gen Cert.Proof.Run
open Idealize.ShloMosaic Idealize.SL.Sem
open Idealize.ShloMosaic.TcCoe

variable (m : (ℓ : Loc nD τ sig) → Buf (Elt Ideal) ℓ) (c : Dev nD)

/-- The arg-max of the reference's scores of the kernel's arguments. -/
abbrev best : IVec Cert.ReferenceIdeal.S8 32 := Reference.argmax (Reference.score (x0 m c) (w0 m c) (d0 m c))

/-- The block the body stores: the arg-max, as a column. -/
theorem outAt_eq (t : Fin cfg0.N) : (outAt m c t : S8x1.Idx → BitVec 32) = fun y => best m c (ix1 (y 0)) := by
  funext y
  have e : y = ix2 (y 0) 0 := (eq_ix2 y).trans (congrArg (ix2 (y 0)) (Subsingleton.elim _ _))
  generalize y 0 = r at e ⊢
  subst e
  unfold outAt outV
  exact vals_argmax (Reference.score (x0 m c) (w0 m c) (d0 m c)) r _ _ fun k j => trip_score m c t k r j

/-- The output window's block is its whole array. -/
theorem idx_zero2 (t : Fin cfg0.N) : win0_2.index t = ![0, 0] := by
  revert t; decide +kernel

/-- The array after the run. -/
theorem array_eq : (dats m 0 c).arrAt 2 cfg0.N = fun y => best m c (ix1 (y 0)) := by
  have ha : ∀ t, (dats m 0 c).after 2 t = fun y => best m c (ix1 (y 0)) := fun t => (after_w2 m c t).trans (outAt_eq m c t)
  generalize best m c = b at ha ⊢
  refine (dats m 0 c).arrAt_eq_of_covers 2 _ (by decide +kernel) fun t hf y => ?_
  rw [ha t]
  blk_simp
  blk_ext! [idx_zero2 t]

/-- The host's last reshape. -/
theorem tail_reshape (W : Valuation τ sig (Elt Ideal)) : StableHlo.after (List.flatten [hostOps1]) W (Proc.devRef .tc main_v0)
    = shapeCast S8 (W (Proc.devRef .tc main_call0_v2)) shapeCasts_S8x1_S8 := by
  simp only [hostOps1, List.flatten_cons, List.flatten_nil, List.append_nil, List.cons_append, List.nil_append]
  after_results_simp
  rfl
/-- The result, from the window's array. -/
theorem tail_main_v0 : Pipeline.afterTail₀ cfgs (dats m) 0 (V0 m) [hostOps1] c main_v0
    = shapeCast S8 ((dats m 0 c).arrAt 2 cfg0.N) shapeCasts_S8x1_S8 := by
  unfold Pipeline.afterTail₀
  refine (tail_reshape _).trans ?_
  refine congrArg (fun v => shapeCast S8 v shapeCasts_S8x1_S8) ?_
  exact Pipeline.withArrays_arr spec0 (by decide) c (V0 m c) _ 2

/-- A column, as a row. -/
theorem column_at (v : IVec S8x1 32) (r : Fin 8) : shapeCast S8 v shapeCasts_S8x1_S8 (ix1 r) = v (ix2 r 0) := by
  pointwise

/-- The kernel's result is the arg-max. -/
theorem result_eq : Pipeline.afterTail₀ cfgs (dats m) 0 (V0 m) [hostOps1] c main_v0 = best m c := by
  rw [tail_main_v0, array_eq]
  funext i
  have e : i = ix1 (i 0) := funext fun a => by fin_cases a; rfl
  generalize i 0 = r at e
  subst e
  exact column_at _ r

/-- The kernel runs, its result the arg-max and its arguments as launched. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v0) = best m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, args_of_post m r h.1 c⟩) (run_main m g)
  exact ((h.1 c).2 main_v0 (Pipeline.mem_restRefs_of main_v0 (by decide) (by decide))).trans (result_eq m c)

end Cert.Proof.KernelValue

end
-- ==== Proof.Value.Equation.lean ====
/-
  The kernel and the reference end with the same result.
-/
module

public import proofs.«01_k».proof.Defs
public import proofs.«01_k».proof.Proof.RefFrame
public import proofs.«01_k».proof.Proof.Value.KernelResult

@[expose] public section

noncomputable section

namespace Cert.Proof.Value

open Idealize.ShloMosaic Idealize.SL.Sem

/-- Over the extended reals, from the same arguments, the kernel and the reference both end with the arg-max of the reference's
    scores, and leave their arguments as launched. -/
theorem algebraic : Cert.algebraic_KernelIdeal_ReferenceIdeal := by
  intro m g m' g' hpre hagree
  refine ⟨fun c => KernelValue.best m c, KernelValue.run m g, ?_⟩
  refine θ_run_mono (θ_run_and (Reference.run m' g') (Reference.frame m' g' trivial)) fun r hr c => ?_
  obtain ⟨h0, h1, h2⟩ := hagree c
  refine ⟨?_, hr.2.1 c⟩
  refine (hr.1 c).trans ?_
  rw [h0, h1, h2]

end Cert.Proof.Value

end
-- ==== Proof.lean ====
/-
  The claims.

  The two frames of the kernel are one run of its text (Run/), the reference's frame a run of its own (RefFrame), no
  operation was rewritten, and the equation of the two results is Value/Equation's.
-/
module

public import proofs.«01_k».proof.Defs
public import proofs.«01_k».proof.Proof.Run.Same
public import proofs.«01_k».proof.Proof.RefFrame
public import proofs.«01_k».proof.Proof.Value.Equation

@[expose] public section

noncomputable section

namespace Cert.Proof

/-- Everything claimed of the kernel and its reference. -/
theorem claim : Cert.Claim :=
  ⟨Cert.Kernel.Gen.facts, Cert.KernelIdeal.Gen.facts, Cert.ReferenceIdeal.Gen.facts,
    Cert.Proof.Same.frame_Kernel, Cert.Proof.Same.frame_KernelIdeal, Cert.Proof.Reference.frame, trivial,
    Cert.Proof.Value.algebraic⟩

end Cert.Proof

end
